-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000 : Shape := ⟨1, ![100000]⟩
abbrev S4x128 : Shape := ⟨2, ![4, 128]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_

variable [Facts]

def fn {F : FTy → Type} [FloatOps F] (main_arg0 : FVec F S100000x128 .f32) (main_arg1 : IVec S100000 32) (main_arg2 : FVec F S4x128 .f32) (main_arg3 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  main_v13
-- ==== Kernel.lean ====
abbrev S100000x128 : Shape := ⟨2, ![100000, 128]⟩
abbrev S100000 : Shape := ⟨1, ![100000]⟩
abbrev S4x128 : Shape := ⟨2, ![4, 128]⟩
abbrev S4 : Shape := ⟨1, ![4]⟩
abbrev S50x1x2000 : Shape := ⟨3, ![50, 1, 2000]⟩
abbrev S_ : Shape := ⟨0, ![]⟩
abbrev S128x8 : Shape := ⟨2, ![128, 8]⟩
abbrev S128x4 : Shape := ⟨2, ![128, 4]⟩
abbrev S1 : Shape := ⟨1, ![1]⟩
abbrev S8 : Shape := ⟨1, ![8]⟩
abbrev S8x8 : Shape := ⟨2, ![8, 8]⟩
abbrev S64x4x128 : Shape := ⟨3, ![64, 4, 128]⟩
abbrev S2000x128 : Shape := ⟨2, ![2000, 128]⟩
abbrev S1x1x2000 : Shape := ⟨3, ![1, 1, 2000]⟩
abbrev S64x8 : Shape := ⟨2, ![64, 8]⟩
abbrev S2000 : Shape := ⟨1, ![2000]⟩
abbrev S2000x64 : Shape := ⟨2, ![2000, 64]⟩
abbrev S2000x1 : Shape := ⟨2, ![2000, 1]⟩
abbrev S2000x8 : Shape := ⟨2, ![2000, 8]⟩
abbrev S1x8 : Shape := ⟨2, ![1, 8]⟩
abbrev S2000x4 : Shape := ⟨2, ![2000, 4]⟩
abbrev S64 : Shape := ⟨1, ![64]⟩
abbrev S64x1 : Shape := ⟨2, ![64, 1]⟩
abbrev S64x4 : Shape := ⟨2, ![64, 4]⟩
abbrev S64x128 : Shape := ⟨2, ![64, 128]⟩
abbrev S64x1x128 : Shape := ⟨3, ![64, 1, 128]⟩
abbrev S64x4x1 : Shape := ⟨3, ![64, 4, 1]⟩

abbrev nBuf : Space → Nat
  | .hbm => 18
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S4x128, .f32⟩
  | .hbm, ⟨3, _⟩ => ⟨S4, .f32⟩
  | .hbm, ⟨4, _⟩ => ⟨S50x1x2000, .i32⟩
  | .hbm, ⟨5, _⟩ => ⟨S_, .f32⟩
  | .hbm, ⟨6, _⟩ => ⟨S128x8, .f32⟩
  | .hbm, ⟨7, _⟩ => ⟨S128x4, .f32⟩
  | .hbm, ⟨8, _⟩ => ⟨S_, .i32⟩
  | .hbm, ⟨9, _⟩ => ⟨S1, .i32⟩
  | .hbm, ⟨10, _⟩ => ⟨S128x8, .f32⟩
  | .hbm, ⟨11, _⟩ => ⟨S_, .f32⟩
  | .hbm, ⟨12, _⟩ => ⟨S8, .f32⟩
  | .hbm, ⟨13, _⟩ => ⟨S_, .i32⟩
  | .hbm, ⟨14, _⟩ => ⟨S1, .i32⟩
  | .hbm, ⟨15, _⟩ => ⟨S8, .f32⟩
  | .hbm, ⟨16, _⟩ => ⟨S8x8, .f32⟩
  | .hbm, ⟨17, _⟩ => ⟨S64x4x128, .f32⟩
  | .local _ .vmem, ⟨0, _⟩ => ⟨S2000x128, .f32⟩
  | .local _ .vmem, ⟨1, _⟩ => ⟨S2000x128, .f32⟩
  | .local _ .vmem, ⟨2, _⟩ => ⟨S1x1x2000, .i32⟩
  | .local _ .vmem, ⟨3, _⟩ => ⟨S1x1x2000, .i32⟩
  | .local _ .vmem, ⟨4, _⟩ => ⟨S128x8, .f32⟩
  | .local _ .vmem, ⟨5, _⟩ => ⟨S8x8, .f32⟩
  | .local _ .vmem, ⟨6, _⟩ => ⟨S64x4x128, .f32⟩
  | .local _ .vmem, ⟨7, _⟩ => ⟨S64x8, .f32⟩
  | .local _ .vmem, ⟨8, _⟩ => ⟨S64x8, .f32⟩
  | .local _ .vmem, ⟨9, _⟩ => ⟨S64x4x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_c_1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v146 : BitVec 1 := Scalar.cmpi .eq arg0 c49_i32
  let v147 : BitVec 32 := Scalar.extui v146
  let c0_i32_54 : BitVec 32 := 0#32
  let v148 : BitVec 1 := Scalar.cmpi .ne v147 c0_i32_54
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S100000x128 : Shape := ⟨2, ![100000, 128]⟩
abbrev S100000 : Shape := ⟨1, ![100000]⟩
abbrev S4x128 : Shape := ⟨2, ![4, 128]⟩
abbrev S4 : Shape := ⟨1, ![4]⟩
abbrev S128x4 : Shape := ⟨2, ![128, 4]⟩
abbrev S100000x4 : Shape := ⟨2, ![100000, 4]⟩
abbrev S1x4 : Shape := ⟨2, ![1, 4]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S100000x64x1 : Shape := ⟨3, ![100000, 64, 1]⟩
abbrev S100000x1x4 : Shape := ⟨3, ![100000, 1, 4]⟩
abbrev S_ : Shape := ⟨0, ![]⟩
abbrev S100000x64x4 : Shape := ⟨3, ![100000, 64, 4]⟩
abbrev S64x4 : Shape := ⟨2, ![64, 4]⟩
abbrev S100000x1x128 : Shape := ⟨3, ![100000, 1, 128]⟩
abbrev S100000x4x1 : Shape := ⟨3, ![100000, 4, 1]⟩
abbrev S100000x4x128 : Shape := ⟨3, ![100000, 4, 128]⟩
abbrev S64x4x128 : Shape := ⟨3, ![64, 4, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S4x128, .f32⟩
  | .hbm, ⟨3, _⟩ => ⟨S4, .f32⟩
  | .hbm, ⟨4, _⟩ => ⟨S128x4, .f32⟩
  | .hbm, ⟨5, _⟩ => ⟨S100000x4, .f32⟩
  | .hbm, ⟨6, _⟩ => ⟨S1x4, .f32⟩
  | .hbm, ⟨7, _⟩ => ⟨S100000x4, .f32⟩
  | .hbm, ⟨8, _⟩ => ⟨S100000x4, .f32⟩
  | .hbm, ⟨9, _⟩ => ⟨S100000x1, .i32⟩
  | .hbm, ⟨10, _⟩ => ⟨S64, .i32⟩
  | .hbm, ⟨11, _⟩ => ⟨S1x64, .i32⟩
  | .hbm, ⟨12, _⟩ => ⟨S100000x64, .i32⟩
  | .hbm, ⟨13, _⟩ => ⟨S100000x64, .i32⟩
  | .hbm, ⟨14, _⟩ => ⟨S100000x64, .i1⟩
  | .hbm, ⟨15, _⟩ => ⟨S100000x64x1, .i1⟩
  | .hbm, ⟨16, _⟩ => ⟨S100000x1x4, .f32⟩
  | .hbm, ⟨17, _⟩ => ⟨S_, .f32⟩
  | .hbm, ⟨18, _⟩ => ⟨S_, .f32⟩
  | .hbm, ⟨19, _⟩ => ⟨S100000x64x4, .i1⟩
  | .hbm, ⟨20, _⟩ => ⟨S100000x64x4, .f32⟩
  | .hbm, ⟨21, _⟩ => ⟨S100000x64x4, .f32⟩
  | .hbm, ⟨22, _⟩ => ⟨S100000x64x4, .f32⟩
  | .hbm, ⟨23, _⟩ => ⟨S_, .f32⟩
  | .hbm, ⟨24, _⟩ => ⟨S64x4, .f32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x4, .f32⟩
  | .hbm, ⟨34, _⟩ => ⟨S100000x4, .f32⟩
  | .hbm, ⟨35, _⟩ => ⟨S100000x4, .f32⟩
  | .hbm, ⟨36, _⟩ => ⟨S_, .f32⟩
  | .hbm, ⟨37, _⟩ => ⟨S64x4, .f32⟩
  | .hbm, ⟨38, _⟩ => ⟨S100000x1, .i32⟩
  | .hbm, ⟨39, _⟩ => ⟨S64x4, .f32⟩
  | .hbm, ⟨40, _⟩ => ⟨S_, .i32⟩
  | .hbm, ⟨41, _⟩ => ⟨S100000, .i32⟩
  | .hbm, ⟨42, _⟩ => ⟨S100000, .i1⟩
  | .hbm, ⟨43, _⟩ => ⟨S_, .i32⟩
  | .hbm, ⟨44, _⟩ => ⟨S100000, .i32⟩
  | .hbm, ⟨45, _⟩ => ⟨S100000, .i32⟩
  | .hbm, ⟨46, _⟩ => ⟨S100000, .i32⟩
  | .hbm, ⟨47, _⟩ => ⟨S100000x1, .i32⟩
  | .hbm, ⟨48, _⟩ => ⟨S100000x4, .f32⟩
  | .hbm, ⟨49, _⟩ => ⟨S100000x4, .f32⟩
  | .hbm, ⟨50, _⟩ => ⟨S100000x1x128, .f32⟩
  | .hbm, ⟨51, _⟩ => ⟨S100000x4x1, .f32⟩
  | .hbm, ⟨52, _⟩ => ⟨S100000x4x128, .f32⟩
  | .hbm, ⟨53, _⟩ => ⟨S100000x4x128, .f32⟩
  | .hbm, ⟨54, _⟩ => ⟨S100000x4x128, .f32⟩
  | .hbm, ⟨55, _⟩ => ⟨S_, .f32⟩
  | .hbm, ⟨56, _⟩ => ⟨S64x4x128, .f32⟩
  | .hbm, ⟨57, _⟩ => ⟨S100000x1, .i32⟩
  | .hbm, ⟨58, _⟩ => ⟨S64x4x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.Softmax.lean ====
/-
  The softmax of one segment, accumulated block by block with a running shift, over the extended reals.

  `Acc P g f n μ d a` says what the running shift `μ`, the running denominator `d` and the running weighted sum `a` are
  after the first `n` rows, of which the rows with `P` belong to the segment: `μ` is some real `x`, `d` is the sum of
  `exp (g r - x)` and `a` the sum of `exp (g r - x) * f r` over the segment's rows. `Acc.step` takes one more block of
  rows, `Acc.final` divides and meets the softmax with any other real shift `M`.
-/
module

public import Idealize.ShloMosaic.PureOps.Ideal
public import Idealize.ShloMosaic.Lib.IdealHost

@[expose] public section

noncomputable section

namespace Cert.Softmax

open Idealize.ShloMosaic

/-- A finite sum of reals, taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real, chosen by a condition, is that choice in the extended reals. -/
theorem coe_ite (p : Prop) [Decidable p] (x y : ℝ) : ((if p then x else y : ℝ) : EReal) = if p then (x : EReal) else (y : EReal) := by
  split <;> rfl

/-- A maximum from `-∞` of terms none of which is `+∞` is not `+∞`. -/
theorem fold_max_ne_top {ι : Type*} (s : Finset ι) (f : ι → EReal) (hf : ∀ i ∈ s, f i ≠ ⊤) : s.fold max ⊥ f ≠ ⊤ := by
  refine ne_of_lt ?_
  rw [Finset.fold_max_lt]
  exact ⟨bot_lt_top, fun i hi => lt_top_iff_ne_top.mpr (hf i hi)⟩

/-- A maximum from `-∞` with one term that is not `-∞`, and none `+∞`, is real. -/
theorem fold_max_real {ι : Type*} (s : Finset ι) (f : ι → EReal) (hf : ∀ i ∈ s, f i ≠ ⊤) (j : ι) (hj : j ∈ s) (hb : f j ≠ ⊥) :
    ∃ x : ℝ, s.fold max ⊥ f = (x : EReal) := by
  have h1 := fold_max_ne_top s f hf
  have h2 : s.fold max ⊥ f ≠ ⊥ := by
    refine ne_of_gt ?_
    rw [Finset.lt_fold_max]
    exact Or.inr ⟨j, hj, bot_lt_iff_ne_bot.mpr hb⟩
  exact ⟨_, (EReal.coe_toReal h1 h2).symm⟩

/-- What the shift, the denominator and one weighted sum are after the first `n` rows. -/
def Acc (P : ℕ → Prop) [DecidablePred P] (g f : ℕ → ℝ) (n : ℕ) (μ d a : EReal) : Prop :=
  ∃ x : ℝ, μ = (x : EReal) ∧ d = ((∑ r ∈ Finset.range n, if P r then Real.exp (g r - x) else 0 : ℝ) : EReal)
    ∧ a = ((∑ r ∈ Finset.range n, if P r then Real.exp (g r - x) * f r else 0 : ℝ) : EReal)

variable (P : ℕ → Prop) [DecidablePred P] (g f : ℕ → ℝ)

/-- Before any row: any real shift, and two zeros. -/
theorem Acc.zero (x : ℝ) : Acc P g f 0 (x : EReal) 0 0 := ⟨x, rfl, by simp, by simp⟩

/-- The sum over the first `n` rows, moved from one shift to another. -/
theorem rescale (n : ℕ) (x y : ℝ) (h : ℕ → ℝ) :
    (∑ r ∈ Finset.range n, if P r then Real.exp (g r - x) * h r else 0) * Real.exp (x - y)
      = ∑ r ∈ Finset.range n, if P r then Real.exp (g r - y) * h r else 0 := by
  rw [Finset.sum_mul]
  refine Finset.sum_congr rfl fun r _ => ?_
  split
  · rw [show g r - y = (g r - x) + (x - y) by ring, Real.exp_add]; ring
  · rw [zero_mul]

/-- One running sum, rescaled to the new shift, plus a block of `B` new terms. -/
theorem sum_step {B : ℕ} (n : ℕ) (x y : ℝ) (h : ℕ → ℝ) (w : Fin B → EReal)
    (hw : ∀ i : Fin B, w i = if P (n + i) then ((Real.exp (g (n + i) - y) * h (n + i) : ℝ) : EReal) else 0) :
    ((∑ r ∈ Finset.range n, if P r then Real.exp (g r - x) * h r else 0 : ℝ) : EReal) * Ideal.exp ((x : EReal) - (y : EReal)) + ∑ i, w i
      = ((∑ r ∈ Finset.range (n + B), if P r then Real.exp (g r - y) * h r else 0 : ℝ) : EReal) := by
  have e1 : ∑ i, w i = ((∑ i : Fin B, if P (n + i) then Real.exp (g (n + i) - y) * h (n + i) else 0 : ℝ) : EReal) := by
    rw [coe_sum]
    refine Finset.sum_congr rfl fun i _ => ?_
    rw [hw i, coe_ite]; rfl
  rw [e1, ← EReal.coe_sub, Ideal.exp_coe, ← EReal.coe_mul, rescale P g n x y h, ← EReal.coe_add, Finset.sum_range_add,
    Finset.sum_range (fun r => if P (n + r) then Real.exp (g (n + r) - y) * h (n + r) else 0)]

/-- ONE BLOCK. The new shift is the old one or the block's bound `b`, whichever is larger; the old sums are rescaled and
    the block's rows `n, …, n + B - 1` are added, each weighted by `p` (one on the segment's rows, zero elsewhere). -/
theorem Acc.step {B n : ℕ} {μ d a : EReal} (h : Acc P g f n μ d a) (b : EReal) (hb : b ≠ ⊤) (p e v : Fin B → EReal)
    (hp : ∀ i : Fin B, p i = if P (n + i) then 1 else 0)
    (he : ∀ i : Fin B, P (n + i) → e i = Ideal.exp ((g (n + i) : EReal) - max μ b))
    (hv : ∀ i : Fin B, v i = (f (n + i) : EReal)) :
    Acc P g f (n + B) (max μ b) (d * Ideal.exp (μ - max μ b) + ∑ i, p i * e i)
      (a * Ideal.exp (μ - max μ b) + ∑ i, p i * e i * v i) := by
  obtain ⟨x, rfl, rfl, rfl⟩ := h
  obtain ⟨y, hy⟩ : ∃ y : ℝ, max (x : EReal) b = (y : EReal) := by
    refine ⟨_, (EReal.coe_toReal (x := max (x : EReal) b) ?_ ?_).symm⟩
    · exact ne_of_lt (max_lt (EReal.coe_lt_top x) (lt_top_iff_ne_top.mpr hb))
    · exact ne_of_gt (lt_of_lt_of_le (EReal.bot_lt_coe x) (le_max_left _ _))
  rw [hy] at he ⊢
  have hpe : ∀ i : Fin B, p i * e i = if P (n + i) then ((Real.exp (g (n + i) - y) : ℝ) : EReal) else 0 := by
    intro i
    rw [hp i]
    split
    · next hi => rw [he i hi, one_mul, ← EReal.coe_sub, Ideal.exp_coe]
    · rw [zero_mul]
  refine ⟨y, rfl, ?_, ?_⟩
  · have := sum_step P g (B := B) n x y (fun _ => 1) (fun i => p i * e i) (fun i => by simpa using hpe i)
    simpa using this
  · refine sum_step P g (B := B) n x y f (fun i => p i * e i * v i) fun i => ?_
    rw [hpe i, hv i]
    split
    · rw [EReal.coe_mul]
    · rw [zero_mul]

/-- THE END. The guarded division gives the softmax-weighted sum of the segment, written with any other real shift `M`;
    a segment without rows gives zero. -/
theorem Acc.final {n : ℕ} {μ d a : EReal} (h : Acc P g f n μ d a) (M : ℝ) :
    (if 0 < d then Ideal.div a (if 0 < d then d else 1) else 0)
      = ((∑ r ∈ Finset.range n, if P r then f r * (Real.exp (g r - M) / ∑ q ∈ Finset.range n, if P q then Real.exp (g q - M) else 0) else 0 : ℝ) : EReal) := by
  obtain ⟨x, -, rfl, rfl⟩ := h
  set D : ℝ := ∑ r ∈ Finset.range n, if P r then Real.exp (g r - x) else 0 with hD
  have eD : (∑ q ∈ Finset.range n, if P q then Real.exp (g q - M) else 0) = D * Real.exp (x - M) := by
    have := rescale P g n x M (fun _ => 1)
    simp only [mul_one] at this
    exact this.symm
  by_cases hn : ∃ r ∈ Finset.range n, P r
  · obtain ⟨r, hr, hP⟩ := hn
    have hpos : 0 < D := by
      refine Finset.sum_pos' (fun q _ => ?_) ⟨r, hr, ?_⟩
      · split
        · exact (Real.exp_pos _).le
        · exact le_refl _
      · rw [if_pos hP]; exact Real.exp_pos _
    have hposE : (0 : EReal) < (D : EReal) := by exact_mod_cast hpos
    rw [if_pos hposE, if_pos hposE, Ideal.div_coe hpos.ne', ← EReal.coe_mul, eD]
    congr 1
    rw [← rescale P g n M x f, Finset.sum_mul, Finset.sum_mul]
    refine Finset.sum_congr rfl fun q _ => ?_
    split
    · rw [show M - x = -(x - M) by ring, Real.exp_neg]
      have := (Real.exp_pos (x - M)).ne'
      field_simp
    · simp
  · have h0 : ∀ r ∈ Finset.range n, ¬P r := fun r hr hP => hn ⟨r, hr, hP⟩
    have hz : D = 0 := Finset.sum_eq_zero fun r hr => if_neg (h0 r hr)
    rw [hz, EReal.coe_zero, if_neg (lt_irrefl _), Finset.sum_eq_zero fun r hr => if_neg (h0 r hr), EReal.coe_zero]

/-- The pattern of `-∞`. -/
theorem ofBits_neg_inf : Ideal.ofBits .f32 0xFF800000#32 = ⊥ := by
  simp [Ideal.ofBits, Ideal.ieee]

/-- The pattern of `+∞`. -/
theorem ofBits_inf : Ideal.ofBits .f32 0x7F800000#32 = ⊤ := by
  simp [Ideal.ofBits, Ideal.ieee]

/-- The large negative fill value is a real. -/
theorem ofBits_fill : ∃ x : ℝ, Ideal.ofBits .f32 0xF149F2CA#32 = (x : EReal) := by
  refine ⟨-(13234890 * 2 ^ 76), ?_⟩
  simp [Ideal.ofBits, Ideal.ieee, -EReal.coe_mul, -EReal.coe_neg]

end Cert.Softmax

end
-- ==== Proof.Finite.lean ====
/-
  The precondition, read: where it is all ones, every feature, score weight and bias is a real number.
-/
module

public import proofs.«01_k».proof.Pre_finite_inputs
public import proofs.«01_k».proof.Proof.Softmax
public import Idealize.ShloMosaic.Lib.Claim
public import Idealize.ShloMosaic.Lib.Pipeline.Value
public import Idealize.ShloMosaic.Lib.Pipeline.ValueKit

@[expose] public section

noncomputable section

namespace Cert.Pre_finite_inputs

open Idealize.ShloMosaic

/-- The shape relations the precondition's operations take. -/
instance facts : Cert.Pre_finite_inputs.Facts where
  bcast_S_S100000x128 := by decide
  reducesTo_S100000x128_S_d0_1 := by decide
  h_S_ := by decide
  bcast_S_S4x128 := by decide
  reducesTo_S4x128_S_d0_1 := by decide
  bcast_S_S4 := by decide
  reducesTo_S4_S_d0 := by decide

/-- An `and` of two bits is one exactly when both are. -/
theorem both_one : ∀ c d : BitVec 1, IntOp.andi c d = 1#1 ↔ c = 1#1 ∧ d = 1#1 := by decide

/-- A fold of `and` that is one folds ones. -/
theorem fold_one {ι : Type} (t : Finset ι) (f : ι → BitVec 1) (b : BitVec 1) (h : t.fold IntOp.andi b f = 1#1) : ∀ i ∈ t, f i = 1#1 := by
  classical
  induction t using Finset.cons_induction with
  | empty => intro i hi; exact absurd hi (Finset.notMem_empty i)
  | cons a u ha ih =>
    rw [Finset.fold_cons] at h
    obtain ⟨h1, h2⟩ := (both_one _ _).1 h
    intro i hi
    rcases Finset.mem_cons.1 hi with rfl | hi
    · exact h1
    · exact ih h2 i hi

/-- An `and` over every entry that is one is over ones. -/
theorem all_one {s : Shape} {axes : List (Fin s.rank)} (x : IVec s 1) (init : IVec S_ 1) (h : s.ReducesTo axes S_) (hu : 0 < S_.numel)
    (j : S_.Idx) (e : Host.reduce IntOp.andi x init h hu j = 1#1) (i : s.Idx) : x i = 1#1 := by
  rw [Host.reduce_eq_fold] at e
  exact fold_one _ _ _ e i (Finset.mem_filter.2 ⟨Finset.mem_univ _, funext fun a => a.elim0⟩)

/-- A number whose absolute value is below infinity is real. -/
theorem real_of_lt (x : EReal) (h : Ideal.cmp .olt (max x (-x)) (Ideal.ofBits .f32 0x7F800000#32) = 1#1) : ∃ r : ℝ, x = (r : EReal) := by
  rw [Softmax.ofBits_inf] at h
  have h' : max x (-x) < ⊤ := by
    by_contra hn
    have : Ideal.cmp .olt (max x (-x)) ⊤ = 0#1 := by
      unfold Ideal.cmp
      simp [hn]
    rw [this] at h
    exact absurd h (by decide)
  obtain ⟨h1, h2⟩ := max_lt_iff.1 h'
  refine ⟨x.toReal, (EReal.coe_toReal (ne_of_lt h1) ?_).symm⟩
  rintro rfl
  exact absurd h2 (by simp)

variable (x0 : FVec Ideal S100000x128 .f32) (x1 : IVec S100000 32) (x2 : FVec Ideal S4x128 .f32) (x3 : FVec Ideal S4 .f32)

theorem real_of_pre (h : fn (F := Ideal) x0 x1 x2 x3 = fun _ => 1#1) :
    (∀ i, ∃ r : ℝ, x0 i = (r : EReal)) ∧ (∀ i, ∃ r : ℝ, x2 i = (r : EReal)) ∧ (∀ i, ∃ r : ℝ, x3 i = (r : EReal)) := by
  have e := congrFun h (fun a => a.elim0)
  unfold fn at e
  obtain ⟨e01, e2⟩ := (both_one _ _).1 e
  obtain ⟨e0, e1⟩ := (both_one _ _).1 e01
  exact ⟨fun i => real_of_lt _ (all_one _ _ _ _ _ e0 i), fun i => real_of_lt _ (all_one _ _ _ _ _ e1 i),
    fun i => real_of_lt _ (all_one _ _ _ _ _ e2 i)⟩

end Cert.Pre_finite_inputs

end
-- ==== Proof.Payloads.lean ====
/-
  What one grid point computes, read at an index over the extended reals.

  `hit` says which rows of the block belong to a segment, `gate` is a row's score for a head, `blockTop` the block's
  largest score in a segment and `newTop` the shift after the block. The lemmas after them read the kernel's own
  values (`k0_pay…`) in these terms.
-/
module

public import proofs.«01_k».proof.Proof.Gen.KernelIdeal.Skeleton
public import proofs.«01_k».proof.Proof.Softmax
public import Idealize.ShloMosaic.Lib.Pipeline.ValueKit
public import Idealize.ShloMosaic.Lib.WordCmp

@[expose] public section

set_option maxRecDepth 16384

noncomputable section

namespace Cert.KernelIdeal.Value

open Cert.KernelIdeal Cert.KernelIdeal.Gen Idealize.ShloMosaic Idealize.ShloMosaic.TcCoe Idealize.SL.Sem

/-- The number an empty segment's running maximum starts from. -/
def fill : EReal := Ideal.ofBits .f32 0xF149F2CA#32

variable (x0 : Vec Ideal S2000x128 .f32) (x1 : Vec Ideal S1x1x2000 .i32) (x2 : Vec Ideal S128x8 .f32)
  (x3 : Vec Ideal S1x8 .f32) (xs0 xs1 : Vec Ideal S64x8 .f32)

/-- Row `n` of the block belongs to segment `s`. -/
def hit (n : Fin 2000) (s : Fin 64) : Prop := x1 (ix3 0 0 n) = BitVec.ofNat 32 s.val

instance (n : Fin 2000) (s : Fin 64) : Decidable (hit x1 n s) := by unfold hit; infer_instance

/-- The score of row `n` for head `k`. -/
def gate (n : Fin 2000) (k : Fin 8) : EReal := (∑ d : Fin 128, x0 (ix2 n d) * x2 (ix2 d k)) + x3 (ix2 0 k)

/-- The largest score of the block's rows in segment `s`, for head `k`. -/
def blockTop (s : Fin 64) (k : Fin 8) : EReal :=
  Finset.univ.fold max ⊥ fun n : Fin 2000 => if hit x1 n s then gate x0 x2 x3 n k else fill

/-- The running maximum after the block. -/
def newTop (s : Fin 64) (k : Fin 8) : EReal := max (xs0 (ix2 s k)) (blockTop x0 x1 x2 x3 s k)

/-- The factor by which the block rescales the running sums. -/
def scale (s : Fin 64) (k : Fin 8) : EReal := Ideal.exp (xs0 (ix2 s k) - newTop x0 x1 x2 x3 xs0 s k)

/-- One where row `n` belongs to segment `s`, zero elsewhere. -/
def mark (n : Fin 2000) (s : Fin 64) : EReal := if hit x1 n s then 1 else 0

/-- The row's weight: the exponential of its score less the running maximum of its own segment. -/
def weight (n : Fin 2000) (k : Fin 8) : EReal :=
  Ideal.exp (gate x0 x2 x3 n k - ∑ s : Fin 64, mark x1 n s * newTop x0 x1 x2 x3 xs0 s k)

/-- A row belongs to at most one segment. -/
theorem hit_unique {n : Fin 2000} {s t : Fin 64} (h : hit x1 n s) (h' : hit x1 n t) : s = t := by
  unfold hit at h h'
  have e := congrArg BitVec.toNat (h.symm.trans h')
  simp only [BitVec.toNat_ofNat] at e
  have := s.isLt
  have := t.isLt
  exact Fin.ext (by omega)

/-- In a row of segment `s` the marked sum is segment `s`'s own term. -/
theorem sum_mark {n : Fin 2000} {s : Fin 64} (h : hit x1 n s) (f : Fin 64 → EReal) : ∑ t : Fin 64, mark x1 n t * f t = f s := by
  rw [Finset.sum_eq_single s]
  · unfold mark; rw [if_pos h, one_mul]
  · intro t _ ht
    unfold mark
    rw [if_neg fun h' => ht (hit_unique x1 h' h), zero_mul]
  · intro h'; exact (h' (Finset.mem_univ _)).elim

theorem weight_of_hit {n : Fin 2000} {s : Fin 64} (h : hit x1 n s) (k : Fin 8) :
    weight x0 x1 x2 x3 xs0 n k = Ideal.exp (gate x0 x2 x3 n k - newTop x0 x1 x2 x3 xs0 s k) := by
  unfold weight
  rw [sum_mark x1 h fun t => newTop x0 x1 x2 x3 xs0 t k]

theorem pay7_apply (n : Fin 2000) (s : Fin 64) : k0_pay7 (F := Ideal) x1 (ix2 n s) = BitVec.ofBool (decide (hit x1 n s)) := by
  pointwise [k0_pay7]
  exact WordCmp.cmpi_eq_eq _ _

theorem pay8_apply (n : Fin 2000) (s : Fin 64) : k0_pay8 (F := Ideal) x1 (ix2 n s) = mark x1 n s := by
  pointwise [k0_pay8]
  rw [pay7_apply]
  unfold mark
  by_cases h : hit x1 n s
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

theorem pay9_apply (n : Fin 2000) (k : Fin 8) (hk : k.val < 4) : k0_pay9 (F := Ideal) x0 x2 x3 (ix2 n k) = gate x0 x2 x3 n k := by
  pointwise [k0_pay9]
  rw [dif_pos hk]
  rfl

theorem select_hit (n : Fin 2000) (s : Fin 64) (a b : EReal) :
    Scalar.select (BitVec.ofBool (decide (hit x1 n s))) a b = if hit x1 n s then a else b := by
  by_cases h : hit x1 n s
  · rw [if_pos h, decide_eq_true h]; rfl
  · rw [if_neg h, decide_eq_false h]; rfl

theorem pay10_apply (s : Fin 64) : k0_pay10 (F := Ideal) x0 x1 x2 x3 (ix1 s) = blockTop x0 x1 x2 x3 s 0 := by
  pointwise [k0_pay10]
  simp only [pay7_apply, select_hit, pay9_apply x0 x2 x3 _ 0 (by decide), Softmax.ofBits_neg_inf]
  rfl

theorem pay11_apply (s : Fin 64) : k0_pay11 (F := Ideal) x0 x1 x2 x3 (ix1 s) = blockTop x0 x1 x2 x3 s 1 := by
  pointwise [k0_pay11]
  simp only [pay7_apply, select_hit, pay9_apply x0 x2 x3 _ 1 (by decide), Softmax.ofBits_neg_inf]
  rfl

theorem pay12_apply (n : Fin 2000) : k0_pay12 (F := Ideal) x0 x2 x3 (ix2 n 0) = gate x0 x2 x3 n 2 := by
  pointwise [k0_pay12]
  exact pay9_apply x0 x2 x3 n 2 (by decide)

theorem pay13_apply (s : Fin 64) (k : Fin 8) (hk : k.val < 4) :
    k0_pay13 (F := Ideal) (k0_pay7 x1) (k0_pay9 x0 x2 x3) (k0_pay10 x0 x1 x2 x3) (k0_pay11 x0 x1 x2 x3) (k0_pay12 x0 x2 x3) xs0 (ix2 s k)
      = newTop x0 x1 x2 x3 xs0 s k := by
  have hc : k = 0 ∨ k = 1 ∨ k = 2 ∨ k = 3 := by
    rcases k with ⟨k, _⟩
    have hk : k < 4 := hk
    simp only [Fin.ext_iff]
    show k = 0 ∨ k = 1 ∨ k = 2 ∨ k = 3
    omega
  rcases hc with rfl | rfl | rfl | rfl
  · pointwise [k0_pay13]
    rw [pay10_apply]; rfl
  · pointwise [k0_pay13]
    rw [pay11_apply]; rfl
  · pointwise [k0_pay13]
    simp only [pay7_apply, select_hit, pay12_apply, Softmax.ofBits_neg_inf]
    rfl
  · pointwise [k0_pay13]
    simp only [pay7_apply, select_hit, pay9_apply x0 x2 x3 _ 3 (by decide), Softmax.ofBits_neg_inf]
    rfl

theorem pay14_apply (s : Fin 64) (k : Fin 8) (hk : k.val < 4) :
    k0_pay14 (F := Ideal) (k0_pay7 x1) (k0_pay9 x0 x2 x3) (k0_pay10 x0 x1 x2 x3) (k0_pay11 x0 x1 x2 x3) (k0_pay12 x0 x2 x3) xs0 (ix2 s k)
      = scale x0 x1 x2 x3 xs0 s k := by
  pointwise [k0_pay14]
  rw [pay13_apply x0 x1 x2 x3 xs0 s k hk]
  rfl

theorem pay15_apply (s : Fin 64) (k : Fin 8) (hk : k.val < 4) :
    k0_pay15 (F := Ideal) (k0_pay7 x1) (k0_pay9 x0 x2 x3) (k0_pay10 x0 x1 x2 x3) (k0_pay11 x0 x1 x2 x3) (k0_pay12 x0 x2 x3) xs0 (ix2 s k)
      = newTop x0 x1 x2 x3 xs0 s k := by
  pointwise [k0_pay15]
  exact pay13_apply x0 x1 x2 x3 xs0 s k hk

theorem pay16_apply (n : Fin 2000) (k : Fin 8) (hk : k.val < 4) :
    k0_pay16 (F := Ideal) (k0_pay7 x1) (k0_pay8 x1) (k0_pay9 x0 x2 x3) (k0_pay10 x0 x1 x2 x3) (k0_pay11 x0 x1 x2 x3) (k0_pay12 x0 x2 x3) xs0 (ix2 n k)
      = weight x0 x1 x2 x3 xs0 n k := by
  pointwise [k0_pay16]
  simp only [pay13_apply x0 x1 x2 x3 xs0 _ k hk, pay8_apply, pay9_apply x0 x2 x3 n k hk]
  rfl

theorem pay17_apply (s : Fin 64) (k : Fin 8) (hk : k.val < 4) :
    k0_pay17 (F := Ideal) (k0_pay7 x1) (k0_pay8 x1) (k0_pay9 x0 x2 x3) (k0_pay10 x0 x1 x2 x3) (k0_pay11 x0 x1 x2 x3) (k0_pay12 x0 x2 x3) xs0 xs1 (ix2 s k)
      = xs1 (ix2 s k) * scale x0 x1 x2 x3 xs0 s k + ∑ n : Fin 2000, mark x1 n s * weight x0 x1 x2 x3 xs0 n k := by
  pointwise [k0_pay17]
  simp only [pay14_apply x0 x1 x2 x3 xs0 s k hk, pay8_apply, pay16_apply x0 x1 x2 x3 xs0 _ k hk]

/-- The block's contribution to the running weighted sum of column `j`, added to the rescaled sum so far. -/
def newSum (a : EReal) (s : Fin 64) (k : Fin 8) (j : Fin 128) : EReal :=
  a * scale x0 x1 x2 x3 xs0 s k + ∑ n : Fin 2000, mark x1 n s * weight x0 x1 x2 x3 xs0 n k * x0 (ix2 n j)

theorem head0_apply (v : Vec Ideal S64x1x128 .f32) (s : Fin 64) (j : Fin 128) :
    k0_pay19 (F := Ideal) x0
        (k0_pay14 (k0_pay7 x1) (k0_pay9 x0 x2 x3) (k0_pay10 x0 x1 x2 x3) (k0_pay11 x0 x1 x2 x3) (k0_pay12 x0 x2 x3) xs0)
        (k0_pay18 (k0_pay7 x1) (k0_pay8 x1) (k0_pay9 x0 x2 x3) (k0_pay10 x0 x1 x2 x3) (k0_pay11 x0 x1 x2 x3) (k0_pay12 x0 x2 x3) xs0)
        (constant S64x128 FTy.f32 0#32) v (ix3 s 0 j)
      = newSum x0 x1 x2 x3 xs0 (v (ix3 s 0 j)) s 0 j := by
  have e : ∀ n : Fin 2000, k0_pay18 (F := Ideal) (k0_pay7 x1) (k0_pay8 x1) (k0_pay9 x0 x2 x3) (k0_pay10 x0 x1 x2 x3) (k0_pay11 x0 x1 x2 x3) (k0_pay12 x0 x2 x3) xs0 (ix2 n s)
      = mark x1 n s * weight x0 x1 x2 x3 xs0 n 0 := fun n => by
    pointwise [k0_pay18]
    rw [pay8_apply, pay16_apply x0 x1 x2 x3 xs0 n 0 (by decide)]
  pointwise [k0_pay19]
  simp only [pay14_apply x0 x1 x2 x3 xs0 s 0 (by decide), e]
  rfl

theorem head1_apply (v : Vec Ideal S64x1x128 .f32) (s : Fin 64) (j : Fin 128) :
    k0_pay20 (F := Ideal) x0 (k0_pay8 x1)
        (k0_pay14 (k0_pay7 x1) (k0_pay9 x0 x2 x3) (k0_pay10 x0 x1 x2 x3) (k0_pay11 x0 x1 x2 x3) (k0_pay12 x0 x2 x3) xs0)
        (k0_pay16 (k0_pay7 x1) (k0_pay8 x1) (k0_pay9 x0 x2 x3) (k0_pay10 x0 x1 x2 x3) (k0_pay11 x0 x1 x2 x3) (k0_pay12 x0 x2 x3) xs0)
        v (ix3 s 0 j)
      = newSum x0 x1 x2 x3 xs0 (v (ix3 s 0 j)) s 1 j := by
  pointwise [k0_pay20]
  simp only [pay14_apply x0 x1 x2 x3 xs0 s 1 (by decide), pay8_apply, pay16_apply x0 x1 x2 x3 xs0 _ 1 (by decide)]
  rfl

theorem head2_apply (v : Vec Ideal S64x1x128 .f32) (s : Fin 64) (j : Fin 128) :
    k0_pay1 (F := Ideal)
        (k0_pay21 x0 (k0_pay8 x1)
          (k0_pay16 (k0_pay7 x1) (k0_pay8 x1) (k0_pay9 x0 x2 x3) (k0_pay10 x0 x1 x2 x3) (k0_pay11 x0 x1 x2 x3) (k0_pay12 x0 x2 x3) xs0))
        (k0_pay22 v)
        (k0_pay23
          (k0_pay14 (k0_pay7 x1) (k0_pay9 x0 x2 x3) (k0_pay10 x0 x1 x2 x3) (k0_pay11 x0 x1 x2 x3) (k0_pay12 x0 x2 x3) xs0))
        (ix3 s 0 j)
      = newSum x0 x1 x2 x3 xs0 (v (ix3 s 0 j)) s 2 j := by
  pointwise [k0_pay1, k0_pay21, k0_pay22, k0_pay23]
  simp only [pay14_apply x0 x1 x2 x3 xs0 s 2 (by decide), pay8_apply, pay16_apply x0 x1 x2 x3 xs0 _ 2 (by decide)]
  rfl

theorem head3_apply (v : Vec Ideal S64x1x128 .f32) (s : Fin 64) (j : Fin 128) :
    k0_pay2 (F := Ideal) x0 (k0_pay8 x1)
        (k0_pay14 (k0_pay7 x1) (k0_pay9 x0 x2 x3) (k0_pay10 x0 x1 x2 x3) (k0_pay11 x0 x1 x2 x3) (k0_pay12 x0 x2 x3) xs0)
        (k0_pay16 (k0_pay7 x1) (k0_pay8 x1) (k0_pay9 x0 x2 x3) (k0_pay10 x0 x1 x2 x3) (k0_pay11 x0 x1 x2 x3) (k0_pay12 x0 x2 x3) xs0)
        v (ix3 s 0 j)
      = newSum x0 x1 x2 x3 xs0 (v (ix3 s 0 j)) s 3 j := by
  pointwise [k0_pay2]
  simp only [pay14_apply x0 x1 x2 x3 xs0 s 3 (by decide), pay8_apply, pay16_apply x0 x1 x2 x3 xs0 _ 3 (by decide)]
  rfl

/-- The final division: the weighted sum by the denominator where that is positive, else zero. -/
theorem pay3_apply (v149 : Vec Ideal S64x8 .f32) (v159 : Vec Ideal S64x4x128 .f32) (s : Fin 64) (k : Fin 4) (j : Fin 128) :
    k0_pay3 (F := Ideal) v149 v159 (ix3 s k j)
      = if 0 < v149 (ix2 s (k.castLE (by decide))) then
          Ideal.div (v159 (ix3 s k j)) (if 0 < v149 (ix2 s (k.castLE (by decide))) then v149 (ix2 s (k.castLE (by decide))) else 1)
        else 0 := by
  pointwise [k0_pay3]
  rfl

theorem pay4_apply (i : S64x8.Idx) : k0_pay4 (F := Ideal) i = fill := by
  pointwise [k0_pay4]
  rfl

theorem pay5_apply (i : S64x8.Idx) : k0_pay5 (F := Ideal) i = 0 := by
  pointwise [k0_pay5]

theorem pay6_apply (i : S64x4x128.Idx) : k0_pay6 (F := Ideal) i = 0 := by
  pointwise [k0_pay6]

end Cert.KernelIdeal.Value

end
-- ==== Proof.Cases.lean ====
/-
  What each of the three kinds of grid point (first, middle, last) leaves in the running maximum, the running denominator,
  the running weighted sums and, at the last point, in the output.
-/
module

public import proofs.«01_k».proof.Proof.Payloads
public import proofs.«01_k».proof.Proof.Gen.KernelIdeal.Value
public import Idealize.ShloMosaic.Lib.Pipeline.ReadBack

@[expose] public section

set_option maxRecDepth 16384

noncomputable section

namespace Cert.KernelIdeal.Value

open Cert.KernelIdeal Cert.KernelIdeal.Gen Idealize.ShloMosaic Idealize.ShloMosaic.TcCoe Idealize.SL.Sem

variable (c : Dev nD) (t : Fin cfg0.N) (x0 : Vec Ideal S2000x128 .f32) (x1 : Vec Ideal S1x1x2000 .i32) (x2 : Vec Ideal S128x8 .f32)
  (x3 : Vec Ideal S8x8 .f32) (b : Vec Ideal S1x8 .f32) (xs0 xs1 : Vec Ideal S64x8 .f32) (xs2 : Vec Ideal S64x4x128 .f32)

/-- The row of biases that the kernel loads. -/
abbrev biasRow : Vec Ideal S1x8 .f32 := View.ld x3 (Rect.unit ![0, 0] ![1, 8] inb_S8x8_S1x8_0_0)

theorem biasRow_apply (k : Fin 8) : biasRow x3 (ix2 0 k) = x3 (ix2 0 k) := by
  refine View.ld_unit_apply_of _ _ _ _ _ _ fun a => ?_
  fin_cases a
  · rfl
  · show k.val = 0 + k.val
    omega

/-- The running maximum after a point. -/
abbrev stepM : Vec Ideal S64x8 .f32 :=
  k0_pay15 (k0_pay7 x1) (k0_pay9 x0 x2 b) (k0_pay10 x0 x1 x2 b) (k0_pay11 x0 x1 x2 b) (k0_pay12 x0 x2 b) xs0

/-- The running denominator after a point. -/
abbrev stepD : Vec Ideal S64x8 .f32 :=
  k0_pay17 (k0_pay7 x1) (k0_pay8 x1) (k0_pay9 x0 x2 b) (k0_pay10 x0 x1 x2 b) (k0_pay11 x0 x1 x2 b) (k0_pay12 x0 x2 b) xs0 xs1

/-- The running weighted sums after a point. -/
def stepS : Vec Ideal S64x4x128 .f32 := fun i =>
  newSum x0 x1 x2 b xs0 (xs2 i) (i 0) ((i 1 : Fin 4).castLE (by decide)) (i 2)

/-- The four stores, one per head, that make up the running weighted sums; the last one first. -/
def headPieces : List (View.Piece (Elt Ideal) S64x4x128 .f32) :=
  [⟨Rect.unit ![0, 3, 0] ![64, 1, 128] inb_S64x4x128_S64x1x128_0_3_0,
      k0_pay2 x0 (k0_pay8 x1)
        (k0_pay14 (k0_pay7 x1) (k0_pay9 x0 x2 b) (k0_pay10 x0 x1 x2 b) (k0_pay11 x0 x1 x2 b) (k0_pay12 x0 x2 b) xs0)
        (k0_pay16 (k0_pay7 x1) (k0_pay8 x1) (k0_pay9 x0 x2 b) (k0_pay10 x0 x1 x2 b) (k0_pay11 x0 x1 x2 b) (k0_pay12 x0 x2 b) xs0)
        (View.ld xs2 (Rect.unit ![0, 3, 0] ![64, 1, 128] inb_S64x4x128_S64x1x128_0_3_0))⟩,
    ⟨Rect.unit ![0, 2, 0] ![64, 1, 128] inb_S64x4x128_S64x1x128_0_2_0,
      k0_pay1
        (k0_pay21 x0 (k0_pay8 x1)
          (k0_pay16 (k0_pay7 x1) (k0_pay8 x1) (k0_pay9 x0 x2 b) (k0_pay10 x0 x1 x2 b) (k0_pay11 x0 x1 x2 b) (k0_pay12 x0 x2 b) xs0))
        (k0_pay22 (View.ld xs2 (Rect.unit ![0, 2, 0] ![64, 1, 128] inb_S64x4x128_S64x1x128_0_2_0)))
        (k0_pay23
          (k0_pay14 (k0_pay7 x1) (k0_pay9 x0 x2 b) (k0_pay10 x0 x1 x2 b) (k0_pay11 x0 x1 x2 b) (k0_pay12 x0 x2 b) xs0))⟩,
    ⟨Rect.unit ![0, 1, 0] ![64, 1, 128] inb_S64x4x128_S64x1x128_0_1_0,
      k0_pay20 x0 (k0_pay8 x1)
        (k0_pay14 (k0_pay7 x1) (k0_pay9 x0 x2 b) (k0_pay10 x0 x1 x2 b) (k0_pay11 x0 x1 x2 b) (k0_pay12 x0 x2 b) xs0)
        (k0_pay16 (k0_pay7 x1) (k0_pay8 x1) (k0_pay9 x0 x2 b) (k0_pay10 x0 x1 x2 b) (k0_pay11 x0 x1 x2 b) (k0_pay12 x0 x2 b) xs0)
        (View.ld xs2 (Rect.unit ![0, 1, 0] ![64, 1, 128] inb_S64x4x128_S64x1x128_0_1_0))⟩,
    ⟨Rect.unit ![0, 0, 0] ![64, 1, 128] inb_S64x4x128_S64x1x128_0_0_0,
      k0_pay19 x0
        (k0_pay14 (k0_pay7 x1) (k0_pay9 x0 x2 b) (k0_pay10 x0 x1 x2 b) (k0_pay11 x0 x1 x2 b) (k0_pay12 x0 x2 b) xs0)
        (k0_pay18 (k0_pay7 x1) (k0_pay8 x1) (k0_pay9 x0 x2 b) (k0_pay10 x0 x1 x2 b) (k0_pay11 x0 x1 x2 b) (k0_pay12 x0 x2 b) xs0)
        (constant S64x128 FTy.f32 0#32)
        (View.ld xs2 (Rect.unit ![0, 0, 0] ![64, 1, 128] inb_S64x4x128_S64x1x128_0_0_0))⟩]

theorem emb_head0 (s : Fin 64) (j : Fin 128) : (Rect.unit ![0, 0, 0] ![64, 1, 128] inb_S64x4x128_S64x1x128_0_0_0).emb (ix3 s (0 : Fin 1) j) = (ix3 s (0 : Fin 4) j : S64x4x128.Idx) := by
  funext a
  refine Fin.ext ?_
  rw [Rect.emb_apply]
  fin_cases a
  · show 0 + 1 * s.val = s.val
    omega
  · rfl
  · show 0 + 1 * j.val = j.val
    omega

theorem ld_head0 (s : Fin 64) (j : Fin 128) : View.ld (Val := Elt Ideal) (e' := .f32) xs2 (Rect.unit ![0, 0, 0] ![64, 1, 128] inb_S64x4x128_S64x1x128_0_0_0) (ix3 s (0 : Fin 1) j) = xs2 (ix3 s (0 : Fin 4) j) :=
  congrArg xs2 (emb_head0 s j)

theorem emb_head1 (s : Fin 64) (j : Fin 128) : (Rect.unit ![0, 1, 0] ![64, 1, 128] inb_S64x4x128_S64x1x128_0_1_0).emb (ix3 s (0 : Fin 1) j) = (ix3 s (1 : Fin 4) j : S64x4x128.Idx) := by
  funext a
  refine Fin.ext ?_
  rw [Rect.emb_apply]
  fin_cases a
  · show 0 + 1 * s.val = s.val
    omega
  · rfl
  · show 0 + 1 * j.val = j.val
    omega

theorem ld_head1 (s : Fin 64) (j : Fin 128) : View.ld (Val := Elt Ideal) (e' := .f32) xs2 (Rect.unit ![0, 1, 0] ![64, 1, 128] inb_S64x4x128_S64x1x128_0_1_0) (ix3 s (0 : Fin 1) j) = xs2 (ix3 s (1 : Fin 4) j) :=
  congrArg xs2 (emb_head1 s j)

theorem emb_head2 (s : Fin 64) (j : Fin 128) : (Rect.unit ![0, 2, 0] ![64, 1, 128] inb_S64x4x128_S64x1x128_0_2_0).emb (ix3 s (0 : Fin 1) j) = (ix3 s (2 : Fin 4) j : S64x4x128.Idx) := by
  funext a
  refine Fin.ext ?_
  rw [Rect.emb_apply]
  fin_cases a
  · show 0 + 1 * s.val = s.val
    omega
  · rfl
  · show 0 + 1 * j.val = j.val
    omega

theorem ld_head2 (s : Fin 64) (j : Fin 128) : View.ld (Val := Elt Ideal) (e' := .f32) xs2 (Rect.unit ![0, 2, 0] ![64, 1, 128] inb_S64x4x128_S64x1x128_0_2_0) (ix3 s (0 : Fin 1) j) = xs2 (ix3 s (2 : Fin 4) j) :=
  congrArg xs2 (emb_head2 s j)

theorem emb_head3 (s : Fin 64) (j : Fin 128) : (Rect.unit ![0, 3, 0] ![64, 1, 128] inb_S64x4x128_S64x1x128_0_3_0).emb (ix3 s (0 : Fin 1) j) = (ix3 s (3 : Fin 4) j : S64x4x128.Idx) := by
  funext a
  refine Fin.ext ?_
  rw [Rect.emb_apply]
  fin_cases a
  · show 0 + 1 * s.val = s.val
    omega
  · rfl
  · show 0 + 1 * j.val = j.val
    omega

theorem ld_head3 (s : Fin 64) (j : Fin 128) : View.ld (Val := Elt Ideal) (e' := .f32) xs2 (Rect.unit ![0, 3, 0] ![64, 1, 128] inb_S64x4x128_S64x1x128_0_3_0) (ix3 s (0 : Fin 1) j) = xs2 (ix3 s (3 : Fin 4) j) :=
  congrArg xs2 (emb_head3 s j)

/-- The four stores are blocks of `stepS`. -/
theorem headPieces_of : View.PiecesOf (stepS x0 x1 x2 b xs0 xs2) (headPieces x0 x1 x2 b xs0 xs2) := by
  refine ⟨fun x => ?_, fun x => ?_, fun x => ?_, fun x => ?_, trivial⟩
  · obtain ⟨s, u, j, rfl⟩ : ∃ (s : Fin 64) (u : Fin 1) (j : Fin 128), x = ix3 s u j := ⟨x 0, x 1, x 2, eq_ix3 x⟩
    obtain rfl : u = 0 := Subsingleton.elim _ _
    refine (head3_apply x0 x1 x2 b xs0 _ s j).trans ?_
    rw [ld_head3 xs2 s j]
    exact (congrArg (stepS x0 x1 x2 b xs0 xs2) (emb_head3 s j)).symm
  · obtain ⟨s, u, j, rfl⟩ : ∃ (s : Fin 64) (u : Fin 1) (j : Fin 128), x = ix3 s u j := ⟨x 0, x 1, x 2, eq_ix3 x⟩
    obtain rfl : u = 0 := Subsingleton.elim _ _
    refine (head2_apply x0 x1 x2 b xs0 _ s j).trans ?_
    rw [ld_head2 xs2 s j]
    exact (congrArg (stepS x0 x1 x2 b xs0 xs2) (emb_head2 s j)).symm
  · obtain ⟨s, u, j, rfl⟩ : ∃ (s : Fin 64) (u : Fin 1) (j : Fin 128), x = ix3 s u j := ⟨x 0, x 1, x 2, eq_ix3 x⟩
    obtain rfl : u = 0 := Subsingleton.elim _ _
    refine (head1_apply x0 x1 x2 b xs0 _ s j).trans ?_
    rw [ld_head1 xs2 s j]
    exact (congrArg (stepS x0 x1 x2 b xs0 xs2) (emb_head1 s j)).symm
  · obtain ⟨s, u, j, rfl⟩ : ∃ (s : Fin 64) (u : Fin 1) (j : Fin 128), x = ix3 s u j := ⟨x 0, x 1, x 2, eq_ix3 x⟩
    obtain rfl : u = 0 := Subsingleton.elim _ _
    refine (head0_apply x0 x1 x2 b xs0 _ s j).trans ?_
    rw [ld_head0 xs2 s j]
    exact (congrArg (stepS x0 x1 x2 b xs0 xs2) (emb_head0 s j)).symm

/-- So, over any earlier stores, they leave `stepS`. -/
theorem canon_headPieces (L : List (View.Piece (Elt Ideal) S64x4x128 .f32)) :
    View.canon (headPieces x0 x1 x2 b xs0 xs2 ++ L) = stepS x0 x1 x2 b xs0 xs2 :=
  funext fun y => View.canon_append_of_piecesOf _ L _ (headPieces_of x0 x1 x2 b xs0 xs2) y (View.cover_of_tiled_head _ _ _ rfl y)

theorem canon_headPieces' : View.canon (headPieces x0 x1 x2 b xs0 xs2) = stepS x0 x1 x2 b xs0 xs2 := by
  have h := canon_headPieces x0 x1 x2 b xs0 xs2 []
  rwa [List.append_nil] at h

/-- Read back whole, the four stores are `stepS`. -/
theorem readCov_headPieces (v : View sig .tc .vmem S64x4x128 .f32) :
    v.readCov (headPieces x0 x1 x2 b xs0 xs2) (Rect.unit ![0, 0, 0] ![64, 4, 128] inb_S64x4x128_S64x4x128_0_0_0).toLoadRect
      = stepS x0 x1 x2 b xs0 xs2 := by
  rw [View.readCov_eq_canon', canon_headPieces']
  exact View.ld_unit_lit _ _ (by decide)

theorem sout0_A_0_eq (h0 : cond0_0 (grid0.coords t)) (h1 : ¬cond0_1 (grid0.coords t)) :
    sout0_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3
      = stepM x0 x1 x2 (biasRow x3) (k0_pay4 (F := Ideal)) := by
  frame_out

theorem sout0_A_1_eq (h0 : cond0_0 (grid0.coords t)) (h1 : ¬cond0_1 (grid0.coords t)) :
    sout0_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3
      = stepD x0 x1 x2 (biasRow x3) (k0_pay4 (F := Ideal)) (k0_pay5 (F := Ideal)) := by
  frame_out

theorem sout0_A_2_eq (h0 : cond0_0 (grid0.coords t)) (h1 : ¬cond0_1 (grid0.coords t)) :
    sout0_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3
      = stepS x0 x1 x2 (biasRow x3) (k0_pay4 (F := Ideal)) (k0_pay6 (F := Ideal)) := by
  frame_open
  simp (disch := decide) only [↓ View.readCov_skip, ↓ View.readCov_cons_toLoadRect, ↓ View.readCov_fill]
  frame_out
  exact canon_headPieces x0 x1 x2 (biasRow x3) (k0_pay4 (F := Ideal)) (k0_pay6 (F := Ideal)) [_]

theorem sout0_B_0_eq (h0 : ¬cond0_0 (grid0.coords t)) (h1 : ¬cond0_1 (grid0.coords t)) :
    sout0_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepM x0 x1 x2 (biasRow x3) xs0 := by
  frame_out
  simp only [read_unread_whole]

theorem sout0_B_1_eq (h0 : ¬cond0_0 (grid0.coords t)) (h1 : ¬cond0_1 (grid0.coords t)) :
    sout0_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepD x0 x1 x2 (biasRow x3) xs0 xs1 := by
  frame_out
  simp only [read_unread_whole]

theorem sout0_B_2_eq (h0 : ¬cond0_0 (grid0.coords t)) (h1 : ¬cond0_1 (grid0.coords t)) :
    sout0_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepS x0 x1 x2 (biasRow x3) xs0 xs2 := by
  frame_open
  simp (disch := decide) only [↓ View.readCov_skip, ↓ View.readCov_cons_toLoadRect, ↓ View.readCov_fill]
  frame_out
  simp only [read_unread_whole]
  exact canon_headPieces' x0 x1 x2 (biasRow x3) xs0 xs2

theorem sout0_C_0_eq (h0 : ¬cond0_0 (grid0.coords t)) (h1 : cond0_1 (grid0.coords t)) :
    sout0_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepM x0 x1 x2 (biasRow x3) xs0 := by
  frame_out
  simp only [read_unread_whole]

theorem sout0_C_1_eq (h0 : ¬cond0_0 (grid0.coords t)) (h1 : cond0_1 (grid0.coords t)) :
    sout0_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepD x0 x1 x2 (biasRow x3) xs0 xs1 := by
  frame_out
  simp only [read_unread_whole]

theorem sout0_C_2_eq (h0 : ¬cond0_0 (grid0.coords t)) (h1 : cond0_1 (grid0.coords t)) :
    sout0_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = stepS x0 x1 x2 (biasRow x3) xs0 xs2 := by
  frame_open
  simp (disch := decide) only [↓ View.readCov_skip, ↓ View.readCov_cons_toLoadRect, ↓ View.readCov_fill]
  frame_out
  simp only [read_unread_whole]
  exact canon_headPieces' x0 x1 x2 (biasRow x3) xs0 xs2

theorem out0_C_4_eq (h0 : ¬cond0_0 (grid0.coords t)) (h1 : cond0_1 (grid0.coords t)) :
    out0_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
        scM0_1 (Memref.isWhole_whole _) scM0_2 (Memref.isWhole_whole _) h0 h1 x0 x1 x2 x3 xs0 xs1 xs2
      = k0_pay3 (stepD x0 x1 x2 (biasRow x3) xs0 xs1) (stepS x0 x1 x2 (biasRow x3) xs0 xs2) := by
  frame_open
  simp (disch := decide) only [↓ View.readCov_skip, ↓ View.readCov_cons_toLoadRect, ↓ View.readCov_fill]
  frame_out
  simp only [read_unread_whole]
  exact congrArg (k0_pay3 (stepD x0 x1 x2 (biasRow x3) xs0 xs1)) (readCov_headPieces x0 x1 x2 (biasRow x3) xs0 xs2 _)

end Cert.KernelIdeal.Value

end
-- ==== Proof.Inputs.lean ====
/-
  What the kernel's four input windows hold at a grid point, in the arguments: rows `2000 t` to `2000 t + 1999` of the
  features and of the segment ids, and the score weights and biases that were set into the first four of eight columns.
-/
module

public import proofs.«01_k».proof.Proof.Payloads
public import proofs.«01_k».proof.Proof.Gen.KernelIdeal.Value
public import Idealize.ShloMosaic.Lib.Claim
public import Idealize.ShloMosaic.Lib.Routing.OpsSet
public import Idealize.ShloMosaic.Lib.Routing.OpsPair

@[expose] public section

set_option maxRecDepth 16384

noncomputable section

namespace Cert.KernelIdeal.Value

open Cert.KernelIdeal Cert.KernelIdeal.Gen Idealize.ShloMosaic Idealize.ShloMosaic.TcCoe Idealize.SL.Sem

variable (m : (l : Loc nD τ sig) → Buf (Elt Ideal) l) (c : Dev nD)

/-- Where each input window stands at a grid point. -/
theorem idx : ∀ t : Fin cfg0.N, win0_0.index t = ![t.val, 0] ∧ win0_1.index t = ![t.val, 0, 0] ∧ win0_2.index t = ![0, 0]
    ∧ win0_3.index t = ![0, 0] := (by decide +kernel : ∀ t : Fin grid0.N, _)

theorem iblk0 (t : Fin cfg0.N) (n : Fin 2000) (d : Fin 128) (h : 2000 * t.val + n.val < 100000) :
    iblk m c 0 t (ix2 n d) = m ((c : Thread nD τ).loc main_arg0) (ix2 ⟨2000 * t.val + n.val, h⟩ d) := by
  blk_ext [iblk, V, idx t]

theorem iblk1 (t : Fin cfg0.N) (n : Fin 2000) (h : 2000 * t.val + n.val < 100000) :
    iblk m c 1 t (ix3 0 0 n) = m ((c : Thread nD τ).loc main_arg1) (ix1 ⟨2000 * t.val + n.val, h⟩) := by
  blk_simp [iblk]
  entry_read
  pointwise
  blk_ext [idx t]

theorem iblk2 (t : Fin cfg0.N) (d : Fin 128) (k : Fin 8) :
    iblk m c 2 t (ix2 d k) = V m c main_call0_v4 (ix2 d k) := by
  blk_ext [iblk, idx t]

theorem iblk3 (t : Fin cfg0.N) (k : Fin 8) :
    iblk m c 3 t (ix2 0 k) = V m c main_call0_v8 (ix2 0 k) := by
  blk_ext [iblk, idx t]

/-- The score weights as the kernel is given them: transposed, in the first four of eight columns. -/
def padW (W : Vec Ideal S4x128 .f32) : Vec Ideal S128x8 .f32 :=
  Host.scatter scatter_S128x8_S1_S128x4_01_n_1_0 (fun _ b => b)
    (broadcastInDim S128x8 ![] bcast_S_S128x8 (constant (F := Ideal) S_ .f32 0x00000000#32) : Vec Ideal S128x8 .f32) (broadcastInDim S1 ![] bcast_S_S1 (constantI S_ 32 0#32))
    (transpose S128x4 [1, 0] W transposes_S4x128_S128x4_1_0)

/-- The biases as the kernel is given them: in the first four of eight entries. -/
def padB (b : Vec Ideal S4 .f32) : Vec Ideal S8 .f32 :=
  Host.scatter scatter_S8_S1_S4_0_n_0_0 (fun _ b => b)
    (broadcastInDim S8 ![] bcast_S_S8 (constant (F := Ideal) S_ .f32 0x00000000#32) : Vec Ideal S8 .f32) (broadcastInDim S1 ![] bcast_S_S1 (constantI S_ 32 0#32)) b

theorem V_weights : V m c main_call0_v4 = padW (m ((c : Thread nD τ).loc main_arg2)) := by
  entry_read
  simp only [StableHlo.TRef.ofBuf_toBuf]
  simp only [StableHlo.TRef.ofBuf, StableHlo.TRef.toBuf, cast_eq]
  rfl

theorem V_biases : V m c main_call0_v8 = (broadcastInDim S8x8 ![1] bcast_S8_S8x8_1 (padB (m ((c : Thread nD τ).loc main_arg3))) : Vec Ideal S8x8 .f32) := by
  entry_read
  simp only [StableHlo.TRef.ofBuf_toBuf]
  simp only [StableHlo.TRef.ofBuf, StableHlo.TRef.toBuf, cast_eq]
  rfl

theorem padW_lands (d : Fin 128) (k : Fin 4) (r : Fin 128) (q : Fin 8) :
    (scatter_S128x8_S1_S128x4_01_n_1_0).resultIdx? (ix2 d k) (broadcastInDim S1 ![] bcast_S_S1 (constantI S_ 32 0#32)) = some (ix2 r q)
      ↔ d.val = r.val ∧ k.val = q.val := by
  have hs : ∀ a, (scatter_S128x8_S1_S128x4_01_n_1_0).start (ix2 d k) (broadcastInDim S1 ![] bcast_S_S1 (constantI S_ 32 0#32)) a = 0 := fun a => by
    unfold ScatterDims.start
    split
    · rfl
    · rfl
  have h0 : (scatter_S128x8_S1_S128x4_01_n_1_0).window (ix2 d k) (0 : Fin 2) = d.val := rfl
  have h1 : (scatter_S128x8_S1_S128x4_01_n_1_0).window (ix2 d k) (1 : Fin 2) = k.val := rfl
  rw [Routing.resultIdx?_eq_some]
  constructor
  · intro h
    have e0 := h (0 : Fin 2)
    have e1 := h (1 : Fin 2)
    rw [hs, h0] at e0
    rw [hs, h1] at e1
    have e0 : (0 : Int) + (d.val : Int) = (r.val : Int) := e0
    have e1 : (0 : Int) + (k.val : Int) = (q.val : Int) := e1
    omega
  · rintro ⟨e0, e1⟩ a
    rw [hs]
    match a with
    | ⟨0, _⟩ =>
      refine (congrArg (fun z : ℕ => (0 : Int) + (z : Int)) h0).trans ?_
      show (0 : Int) + (d.val : Int) = (r.val : Int)
      omega
    | ⟨1, _⟩ =>
      refine (congrArg (fun z : ℕ => (0 : Int) + (z : Int)) h1).trans ?_
      show (0 : Int) + (k.val : Int) = (q.val : Int)
      omega

theorem padB_lands (k : Fin 4) (q : Fin 8) :
    (scatter_S8_S1_S4_0_n_0_0).resultIdx? (ix1 k) (broadcastInDim S1 ![] bcast_S_S1 (constantI S_ 32 0#32)) = some (ix1 q)
      ↔ k.val = q.val := by
  have hs : ∀ a, (scatter_S8_S1_S4_0_n_0_0).start (ix1 k) (broadcastInDim S1 ![] bcast_S_S1 (constantI S_ 32 0#32)) a = 0 := fun a => by
    unfold ScatterDims.start
    split
    · rfl
    · rfl
  have h0 : (scatter_S8_S1_S4_0_n_0_0).window (ix1 k) (0 : Fin 1) = k.val := rfl
  rw [Routing.resultIdx?_eq_some]
  constructor
  · intro h
    have e0 := h (0 : Fin 1)
    rw [hs, h0] at e0
    have e0 : (0 : Int) + (k.val : Int) = (q.val : Int) := e0
    omega
  · rintro e0 a
    rw [hs]
    match a with
    | ⟨0, _⟩ =>
      refine (congrArg (fun z : ℕ => (0 : Int) + (z : Int)) h0).trans ?_
      show (0 : Int) + (k.val : Int) = (q.val : Int)
      omega

theorem padW_apply (W : Vec Ideal S4x128 .f32) (d : Fin 128) (k : Fin 4) : padW W (ix2 d (k.castLE (by decide))) = W (ix2 k d) := by
  refine Routing.scatter_set_hit _ _ _ _ _ _ (fun i hi => ?_) (ix2 d k) ((padW_lands d k d (k.castLE (by decide))).2 ⟨rfl, rfl⟩)
  obtain ⟨d', k', rfl⟩ : ∃ (d' : Fin 128) (k' : Fin 4), i = ix2 d' k' := ⟨i 0, i 1, eq_ix2 i⟩
  obtain ⟨e0, e1⟩ := (padW_lands d' k' d _).1 hi
  obtain rfl : d' = d := Fin.ext e0
  obtain rfl : k' = k := Fin.ext e1
  pointwise

theorem padB_apply (b : Vec Ideal S4 .f32) (k : Fin 4) : padB b (ix1 (k.castLE (by decide))) = b (ix1 k) := by
  refine Routing.scatter_set_hit _ _ _ _ _ _ (fun i hi => ?_) (ix1 k) ((padB_lands k (k.castLE (by decide))).2 rfl)
  obtain ⟨k', rfl⟩ : ∃ (k' : Fin 4), i = ix1 k' := ⟨i 0, eq_ix1 i⟩
  obtain rfl : k' = k := Fin.ext ((padB_lands k' _).1 hi)
  rfl

theorem iblk2_apply (t : Fin cfg0.N) (d : Fin 128) (k : Fin 4) :
    iblk m c 2 t (ix2 d (k.castLE (by decide))) = m ((c : Thread nD τ).loc main_arg2) (ix2 k d) := by
  rw [iblk2, V_weights]
  exact padW_apply _ d k

theorem iblk3_apply (t : Fin cfg0.N) (k : Fin 4) :
    iblk m c 3 t (ix2 0 (k.castLE (by decide))) = m ((c : Thread nD τ).loc main_arg3) (ix1 k) := by
  rw [iblk3, V_biases]
  refine Eq.trans ?_ (padB_apply _ k)
  pointwise

end Cert.KernelIdeal.Value

end
-- ==== Proof.Rows.lean ====
/-
  The problem's rows counted by natural numbers: which rows a segment has, a row's score for a head, a row's entry in a
  column. Beyond the last row a segment has none, and the numbers are zero.
-/
module

public import Mathlib.Data.Real.Basic
public import Mathlib.Algebra.BigOperators.Fin

@[expose] public section

noncomputable section

namespace Cert.Softmax

/-- Row `r` exists and belongs to segment `s`. -/
def inSeg (ids : Fin 100000 → BitVec 32) (s : Fin 64) (r : ℕ) : Prop := ∃ h : r < 100000, ids ⟨r, h⟩ = BitVec.ofNat 32 s.val

instance (ids : Fin 100000 → BitVec 32) (s : Fin 64) : DecidablePred (inSeg ids s) := fun _ => by unfold inSeg; infer_instance

/-- The score of row `r` for head `k`. -/
def score (X : Fin 100000 → Fin 128 → ℝ) (W : Fin 4 → Fin 128 → ℝ) (B : Fin 4 → ℝ) (k : Fin 4) (r : ℕ) : ℝ :=
  if h : r < 100000 then (∑ d, X ⟨r, h⟩ d * W k d) + B k else 0

/-- Column `j` of row `r`. -/
def entry (X : Fin 100000 → Fin 128 → ℝ) (j : Fin 128) (r : ℕ) : ℝ := if h : r < 100000 then X ⟨r, h⟩ j else 0

end Cert.Softmax

end
-- ==== Proof.Invariant.lean ====
/-
  The kernel's result, on inputs that are real numbers.

  After grid point `n` the running maximum, denominator and weighted sums are the softmax accumulation (`Softmax.Acc`)
  over the first `2000 (n + 1)` rows, for every segment, head and column; the last point's division then gives the softmax
  of the whole segment.
-/
module

public import proofs.«01_k».proof.Proof.Cases
public import proofs.«01_k».proof.Proof.Inputs
public import proofs.«01_k».proof.Proof.Rows

@[expose] public section

set_option maxRecDepth 16384

noncomputable section

namespace Cert.KernelIdeal.Value

open Cert.KernelIdeal Cert.KernelIdeal.Gen Idealize.ShloMosaic Idealize.ShloMosaic.TcCoe Idealize.SL.Sem Cert.Softmax

/-! ## One point -/

section Step

variable (x0 : Vec Ideal S2000x128 .f32) (x1 : Vec Ideal S1x1x2000 .i32) (x2 : Vec Ideal S128x8 .f32)
  (b : Vec Ideal S1x8 .f32) (xs0 xs1 : Vec Ideal S64x8 .f32) (xs2 : Vec Ideal S64x4x128 .f32)

/-- The head, among the kernel's eight columns. -/
abbrev col (k : Fin 4) : Fin 8 := k.castLE (by decide)

theorem fill_real : ∃ x : ℝ, fill = (x : EReal) := Softmax.ofBits_fill

theorem acc_step {P : ℕ → Prop} [DecidablePred P] {g f : ℕ → ℝ} {N : ℕ} {s : Fin 64} {k : Fin 4} {j : Fin 128}
    (hg : ∀ n : Fin 2000, gate x0 x2 b n (col k) = (g (N + n.val) : EReal)) (hh : ∀ n : Fin 2000, hit x1 n s ↔ P (N + n.val))
    (hf : ∀ n : Fin 2000, x0 (ix2 n j) = (f (N + n.val) : EReal))
    (h : Softmax.Acc P g f N (xs0 (ix2 s (col k))) (xs1 (ix2 s (col k))) (xs2 (ix3 s k j))) :
    Softmax.Acc P g f (N + 2000) (stepM x0 x1 x2 b xs0 (ix2 s (col k))) (stepD x0 x1 x2 b xs0 xs1 (ix2 s (col k)))
      (stepS x0 x1 x2 b xs0 xs2 (ix3 s k j)) := by
  have hk : (col k).val < 4 := k.isLt
  unfold stepM stepD
  rw [pay15_apply x0 x1 x2 b xs0 s (col k) hk, pay17_apply x0 x1 x2 b xs0 xs1 s (col k) hk]
  refine Softmax.Acc.step P g f h (blockTop x0 x1 x2 b s (col k)) ?_ (fun n => mark x1 n s) (fun n => weight x0 x1 x2 b xs0 n (col k))
    (fun n => x0 (ix2 n j)) (fun n => ?_) (fun n hn => ?_) hf
  · refine Softmax.fold_max_ne_top _ _ fun n _ => ?_
    split
    · rw [hg n]; exact EReal.coe_ne_top _
    · obtain ⟨x, hx⟩ := fill_real
      rw [hx]; exact EReal.coe_ne_top _
  · unfold mark
    simp only [hh n]
  · rw [weight_of_hit x0 x1 x2 b xs0 ((hh n).2 hn), hg n]
    rfl

theorem acc_start (P : ℕ → Prop) [DecidablePred P] (g f : ℕ → ℝ) (s : Fin 64) (k : Fin 4) (j : Fin 128) :
    Softmax.Acc P g f 0 (k0_pay4 (F := Ideal) (ix2 s (col k))) (k0_pay5 (F := Ideal) (ix2 s (col k))) (k0_pay6 (F := Ideal) (ix3 s k j)) := by
  obtain ⟨x, hx⟩ := fill_real
  rw [pay4_apply, pay5_apply, pay6_apply, hx]
  exact Softmax.Acc.zero P g f x

end Step

/-! ## All points -/

variable (m : (l : Loc nD τ sig) → Buf (Elt Ideal) l) (c : Dev nD)

/-- The segment ids. -/
abbrev idsOf : Fin 100000 → BitVec 32 := fun r => m ((c : Thread nD τ).loc main_arg1) (ix1 r)

variable {X : Fin 100000 → Fin 128 → ℝ} {W : Fin 4 → Fin 128 → ℝ} {B : Fin 4 → ℝ}
  (hX : ∀ r d, m ((c : Thread nD τ).loc main_arg0) (ix2 r d) = (X r d : EReal))
  (hW : ∀ k d, m ((c : Thread nD τ).loc main_arg2) (ix2 k d) = (W k d : EReal))
  (hB : ∀ k, m ((c : Thread nD τ).loc main_arg3) (ix1 k) = (B k : EReal))

include hX in
theorem feat_at (t : Fin cfg0.N) (n : Fin 2000) (j : Fin 128) : iblk m c 0 t (ix2 n j) = (entry X j (2000 * t.val + n.val) : EReal) := by
  have ht : t.val < 50 := lt_of_lt_of_eq t.isLt N_0
  have h : 2000 * t.val + n.val < 100000 := by have := n.isLt; omega
  rw [iblk0 m c t n j h, hX]
  unfold entry
  rw [dif_pos h]

theorem hit_at (t : Fin cfg0.N) (n : Fin 2000) (s : Fin 64) : hit (iblk m c 1 t) n s ↔ inSeg (idsOf m c) s (2000 * t.val + n.val) := by
  have ht : t.val < 50 := lt_of_lt_of_eq t.isLt N_0
  have h : 2000 * t.val + n.val < 100000 := by have := n.isLt; omega
  unfold hit inSeg
  rw [iblk1 m c t n h]
  exact ⟨fun e => ⟨h, e⟩, fun ⟨_, e⟩ => e⟩

include hX hW hB in
theorem gate_at (t : Fin cfg0.N) (n : Fin 2000) (k : Fin 4) :
    gate (iblk m c 0 t) (iblk m c 2 t) (biasRow (iblk m c 3 t)) n (col k) = (score X W B k (2000 * t.val + n.val) : EReal) := by
  have ht : t.val < 50 := lt_of_lt_of_eq t.isLt N_0
  have h : 2000 * t.val + n.val < 100000 := by have := n.isLt; omega
  unfold gate score
  rw [dif_pos h, biasRow_apply, iblk3_apply m c t k, hB, EReal.coe_add, Softmax.coe_sum]
  refine congrArg (· + (B k : EReal)) (Finset.sum_congr rfl fun d _ => ?_)
  rw [iblk0 m c t n d h, hX, iblk2_apply m c t d k, hW, EReal.coe_mul]

/-- What the scratch holds after point `n`. -/
def Inv (X : Fin 100000 → Fin 128 → ℝ) (W : Fin 4 → Fin 128 → ℝ) (B : Fin 4 → ℝ) (ids : Fin 100000 → BitVec 32) (N : ℕ)
    (a : Vec Ideal S64x4x128 .f32 × Vec Ideal S64x8 .f32 × Vec Ideal S64x8 .f32 × Vec Ideal S64x4x128 .f32) : Prop :=
  ∀ (s : Fin 64) (k : Fin 4) (j : Fin 128),
    Softmax.Acc (inSeg ids s) (score X W B k) (entry X j) N (a.2.1 (ix2 s (col k))) (a.2.2.1 (ix2 s (col k))) (a.2.2.2 (ix3 s k j))

include hX hW hB in
theorem point_acc (t : Fin cfg0.N) (xs0 xs1 : Vec Ideal S64x8 .f32) (xs2 : Vec Ideal S64x4x128 .f32) (s : Fin 64) (k : Fin 4) (j : Fin 128)
    (h : Softmax.Acc (inSeg (idsOf m c) s) (score X W B k) (entry X j) (2000 * t.val) (xs0 (ix2 s (col k))) (xs1 (ix2 s (col k))) (xs2 (ix3 s k j))) :
    Softmax.Acc (inSeg (idsOf m c) s) (score X W B k) (entry X j) (2000 * (t.val + 1))
      (stepM (iblk m c 0 t) (iblk m c 1 t) (iblk m c 2 t) (biasRow (iblk m c 3 t)) xs0 (ix2 s (col k)))
      (stepD (iblk m c 0 t) (iblk m c 1 t) (iblk m c 2 t) (biasRow (iblk m c 3 t)) xs0 xs1 (ix2 s (col k)))
      (stepS (iblk m c 0 t) (iblk m c 1 t) (iblk m c 2 t) (biasRow (iblk m c 3 t)) xs0 xs2 (ix3 s k j)) := by
  rw [Nat.mul_succ]
  exact acc_step (iblk m c 0 t) (iblk m c 1 t) (iblk m c 2 t) (biasRow (iblk m c 3 t)) xs0 xs1 xs2 (fun n => gate_at m c hX hW hB t n k)
    (fun n => hit_at m c t n s) (fun n => feat_at m c hX t n j) h

include hX hW hB in
theorem inv_at : ∀ (n : ℕ) (hn : n < cfg0.N), Inv X W B (idsOf m c) (2000 * (n + 1)) (outsAt0 m c n hn)
  | 0, hn => by
    intro s k j
    rw [outsAt0_zero m c hn, stAt0_A m c ⟨0, hn⟩ _ (Nat.zero_mod _) (show ¬0 % 50 = 49 by decide)]
    dsimp only
    rw [sout0_A_0_eq, sout0_A_1_eq, sout0_A_2_eq]
    exact point_acc m c hX hW hB ⟨0, hn⟩ _ _ _ s k j (acc_start _ _ _ s k j)
  | n + 1, hn => by
    intro s k j
    have hN : n + 1 < 50 := lt_of_lt_of_eq hn N_0
    have ih := inv_at n (Nat.lt_of_succ_lt hn) s k j
    have h0 : ¬(⟨n + 1, hn⟩ : Fin cfg0.N).val % 50 = 0 := by
      show ¬(n + 1) % 50 = 0
      omega
    rw [outsAt0_succ m c n hn]
    by_cases h1 : (⟨n + 1, hn⟩ : Fin cfg0.N).val % 50 = 49
    · rw [stAt0_C m c ⟨n + 1, hn⟩ _ h0 h1]
      dsimp only
      rw [sout0_C_0_eq, sout0_C_1_eq, sout0_C_2_eq]
      exact point_acc m c hX hW hB ⟨n + 1, hn⟩ _ _ _ s k j ih
    · rw [stAt0_B m c ⟨n + 1, hn⟩ _ h0 h1]
      dsimp only
      rw [sout0_B_0_eq, sout0_B_1_eq, sout0_B_2_eq]
      exact point_acc m c hX hW hB ⟨n + 1, hn⟩ _ _ _ s k j ih

include hX hW hB in
/-- What the last point writes out. -/
theorem last_apply (n : ℕ) (hn : n + 1 < cfg0.N) (h1 : (n + 1) % 50 = 49) (s : Fin 64) (k : Fin 4) (j : Fin 128) (M : ℝ) :
    (outsAt0 m c (n + 1) hn).1 (ix3 s k j)
      = ((∑ r ∈ Finset.range (2000 * (n + 1 + 1)), if inSeg (idsOf m c) s r then entry X j r * (Real.exp (score X W B k r - M)
          / ∑ q ∈ Finset.range (2000 * (n + 1 + 1)), if inSeg (idsOf m c) s q then Real.exp (score X W B k q - M) else 0) else 0 : ℝ) : EReal) := by
  have h0 : ¬(⟨n + 1, hn⟩ : Fin cfg0.N).val % 50 = 0 := by
    show ¬(n + 1) % 50 = 0
    omega
  have ih := inv_at m c hX hW hB n (Nat.lt_of_succ_lt hn) s k j
  have h := point_acc m c hX hW hB ⟨n + 1, hn⟩ _ _ _ s k j ih
  rw [outsAt0_succ m c n hn, stAt0_C m c ⟨n + 1, hn⟩ _ h0 h1]
  dsimp only
  rw [out0_C_4_eq, pay3_apply]
  exact Softmax.Acc.final _ _ _ h M

include hX hW hB in
/-- The kernel's result at segment `s`, head `k`, column `j`: the softmax of the segment's scores, shifted by any real `M`, applied to
    the column. -/
theorem result_apply (s : Fin 64) (k : Fin 4) (j : Fin 128) (M : ℝ) :
    (G4 m c : Vec Ideal S64x4x128 .f32) (ix3 s k j)
      = ((∑ r ∈ Finset.range 100000, if inSeg (idsOf m c) s r then entry X j r * (Real.exp (score X W B k r - M)
          / ∑ q ∈ Finset.range 100000, if inSeg (idsOf m c) s q then Real.exp (score X W B k q - M) else 0) else 0 : ℝ) : EReal) := by
  have h49 : 48 + 1 < cfg0.N := lt_of_lt_of_eq (by decide) N_0.symm
  have e : G4 m c = (outsAt0 m c (48 + 1) h49).1 := by
    rw [G4_last, outsAt0_sweep]
  have h := last_apply m c hX hW hB 48 h49 (by decide) s k j M
  rw [show 2000 * (48 + 1 + 1) = 100000 from by norm_num] at h
  rw [e]
  exact h

end Cert.KernelIdeal.Value

end
-- ==== Proof.Reference.lean ====
/-
  The reference's result, read at an index over the extended reals.

  A segment's largest score, the two gathers that hand it and the segment's sum back to the rows, and the two segment sums.
  A row whose id is no segment's lands nowhere in a segment sum, so what the gathers read for it plays no part.
-/
module

public import proofs.«01_k».proof.Proof.Gen.ReferenceIdeal.Read
public import proofs.«01_k».proof.Proof.Rows
public import proofs.«01_k».proof.Proof.Softmax
public import Idealize.ShloMosaic.Lib.Claim
public import Idealize.ShloMosaic.Lib.Pipeline.ValueKit
public import Idealize.ShloMosaic.Lib.WordCmp
public import Idealize.ShloMosaic.Lib.Routing.OpsPair

@[expose] public section

set_option maxRecDepth 16384

noncomputable section

namespace Cert.ReferenceIdeal.Read

open Cert.ReferenceIdeal Cert.ReferenceIdeal.Gen Idealize.ShloMosaic Idealize.ShloMosaic.TcCoe Idealize.SL.Sem Cert.Softmax

/-! ## A segment's word -/

/-- A word read signed is the segment's number exactly when it is the segment's word. -/
theorem word_iff (w : BitVec 32) (s : Fin 64) : w.toInt = (s.val : Int) ↔ w = BitVec.ofNat 32 s.val := by
  have hs := s.isLt
  have e : (BitVec.ofNat 32 s.val).toInt = (s.val : Int) := by
    rw [BitVec.toInt_eq_toNat_of_lt (by rw [BitVec.toNat_ofNat]; omega), BitVec.toNat_ofNat, Nat.mod_eq_of_lt (by omega)]
  constructor
  · intro h
    exact BitVec.eq_of_toInt_eq (h.trans e.symm)
  · rintro rfl
    exact e

/-! ## The gather and the segment sums, at their own operands -/

/-- A row with segment `s`'s word reads row `s` of the table. -/
theorem gather_apply (T : Vec Ideal S64x4 .f32) (idx : IVec S100000x1 32) (n : Fin 100000) (s : Fin 64) (k : Fin 4)
    (h : idx (ix2 n 0) = BitVec.ofNat 32 s.val) :
    Host.gather gather_S64x4_S100000x1_S100000x4_1_0_n_n_0_1_14 T idx (ix2 n k) = T (ix2 s k) := by
  unfold Host.gather
  congr 1
  funext a
  refine Fin.ext ?_
  show (gather_S64x4_S100000x1_S100000x4_1_0_n_n_0_1_14).start (ix2 n k) idx a
      + (gather_S64x4_S100000x1_S100000x4_1_0_n_n_0_1_14).batchCoord (ix2 n k) a
      + (gather_S64x4_S100000x1_S100000x4_1_0_n_n_0_1_14).offCoord (ix2 n k) a = _
  have h01 : a = 0 ∨ a = 1 := by
    match a with
    | ⟨0, _⟩ => exact Or.inl rfl
    | ⟨1, _⟩ => exact Or.inr rfl
  rw [GatherDims.batchCoord_eq_zero _ _ _ List.not_mem_nil, Nat.add_zero]
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (gather_S64x4_S100000x1_S100000x4_1_0_n_n_0_1_14).startIndexMap from List.mem_singleton.mpr rfl)]
    have hsi : (gather_S64x4_S100000x1_S100000x4_1_0_n_n_0_1_14).siIdx (ix2 n k)
        ⟨List.idxOf (0 : Fin 2) (gather_S64x4_S100000x1_S100000x4_1_0_n_n_0_1_14).startIndexMap,
          List.idxOf_lt_length_iff.2 (List.mem_singleton.mpr rfl)⟩ = ix2 n 0 := by
      funext b; refine Fin.ext ?_
      match b with
      | ⟨0, _⟩ => rfl
      | ⟨1, _⟩ => rfl
    rw [hsi, (word_iff _ s).2 h]
    show min (Int.toNat (s.val : Int)) (64 - 1) = s.val
    have := s.isLt
    omega
  · have hst : (gather_S64x4_S100000x1_S100000x4_1_0_n_n_0_1_14).start (ix2 n k) idx (1 : Fin 2) = 0 := rfl
    rw [hst]
    show 0 + k.val = k.val
    omega

/-- Row `n`'s entry `k` lands at segment `s`, entry `q`, exactly when the row has the segment's word and `k` is `q`. -/
theorem sum_lands (idx : IVec S100000x1 32) (n : Fin 100000) (k : Fin 4) (s : Fin 64) (q : Fin 4) :
    (scatter_S64x4_S100000x1_S100000x4_1_0_0_1).resultIdx? (ix2 n k) idx = some (ix2 s q)
      ↔ idx (ix2 n 0) = BitVec.ofNat 32 s.val ∧ k = q := by
  have hs0 : (scatter_S64x4_S100000x1_S100000x4_1_0_0_1).start (ix2 n k) idx (0 : Fin 2) = (idx (ix2 n 0)).toInt := by
    unfold ScatterDims.start
    rw [dif_pos (show (0 : Fin 2) ∈ (scatter_S64x4_S100000x1_S100000x4_1_0_0_1).scatterDimsToOperandDims from List.mem_singleton.mpr rfl)]
    refine congrArg (fun i => (idx i).toInt) ?_
    funext b; refine Fin.ext ?_
    match b with
    | ⟨0, _⟩ => rfl
    | ⟨1, _⟩ => rfl
  have hs1 : (scatter_S64x4_S100000x1_S100000x4_1_0_0_1).start (ix2 n k) idx (1 : Fin 2) = 0 := rfl
  have h0 : (scatter_S64x4_S100000x1_S100000x4_1_0_0_1).window (ix2 n k) (0 : Fin 2) = 0 := rfl
  have h1 : (scatter_S64x4_S100000x1_S100000x4_1_0_0_1).window (ix2 n k) (1 : Fin 2) = k.val := rfl
  refine (Routing.resultIdx?_ix2 _ _ _ _ _).trans ?_
  rw [hs0, hs1, h0, h1, ← word_iff, Fin.ext_iff]
  constructor
  · rintro ⟨a, b⟩; constructor <;> omega
  · rintro ⟨a, b⟩; constructor <;> omega

/-- The same for the weighted rows: entry `(k, j)` lands at segment `s`, entry `(q, l)`. -/
theorem wsum_lands (idx : IVec S100000x1 32) (n : Fin 100000) (k : Fin 4) (j : Fin 128) (s : Fin 64) (q : Fin 4) (l : Fin 128) :
    (scatter_S64x4x128_S100000x1_S100000x4x128_12_0_0_1).resultIdx? (ix3 n k j) idx = some (ix3 s q l)
      ↔ idx (ix2 n 0) = BitVec.ofNat 32 s.val ∧ k = q ∧ j = l := by
  have hs0 : (scatter_S64x4x128_S100000x1_S100000x4x128_12_0_0_1).start (ix3 n k j) idx (0 : Fin 3) = (idx (ix2 n 0)).toInt := by
    unfold ScatterDims.start
    rw [dif_pos (show (0 : Fin 3) ∈ (scatter_S64x4x128_S100000x1_S100000x4x128_12_0_0_1).scatterDimsToOperandDims from List.mem_singleton.mpr rfl)]
    refine congrArg (fun i => (idx i).toInt) ?_
    funext b; refine Fin.ext ?_
    match b with
    | ⟨0, _⟩ => rfl
    | ⟨1, _⟩ => rfl
  have hs1 : (scatter_S64x4x128_S100000x1_S100000x4x128_12_0_0_1).start (ix3 n k j) idx (1 : Fin 3) = 0 := rfl
  have hs2 : (scatter_S64x4x128_S100000x1_S100000x4x128_12_0_0_1).start (ix3 n k j) idx (2 : Fin 3) = 0 := rfl
  have h0 : (scatter_S64x4x128_S100000x1_S100000x4x128_12_0_0_1).window (ix3 n k j) (0 : Fin 3) = 0 := rfl
  have h1 : (scatter_S64x4x128_S100000x1_S100000x4x128_12_0_0_1).window (ix3 n k j) (1 : Fin 3) = k.val := rfl
  have h2 : (scatter_S64x4x128_S100000x1_S100000x4x128_12_0_0_1).window (ix3 n k j) (2 : Fin 3) = j.val := rfl
  have split : (scatter_S64x4x128_S100000x1_S100000x4x128_12_0_0_1).resultIdx? (ix3 n k j) idx = some (ix3 s q l)
      ↔ (scatter_S64x4x128_S100000x1_S100000x4x128_12_0_0_1).start (ix3 n k j) idx (0 : Fin 3)
          + ((scatter_S64x4x128_S100000x1_S100000x4x128_12_0_0_1).window (ix3 n k j) (0 : Fin 3) : Int) = (s.val : Int)
        ∧ (scatter_S64x4x128_S100000x1_S100000x4x128_12_0_0_1).start (ix3 n k j) idx (1 : Fin 3)
          + ((scatter_S64x4x128_S100000x1_S100000x4x128_12_0_0_1).window (ix3 n k j) (1 : Fin 3) : Int) = (q.val : Int)
        ∧ (scatter_S64x4x128_S100000x1_S100000x4x128_12_0_0_1).start (ix3 n k j) idx (2 : Fin 3)
          + ((scatter_S64x4x128_S100000x1_S100000x4x128_12_0_0_1).window (ix3 n k j) (2 : Fin 3) : Int) = (l.val : Int) := by
    rw [Routing.resultIdx?_eq_some]
    constructor
    · intro h; exact ⟨h (0 : Fin 3), h (1 : Fin 3), h (2 : Fin 3)⟩
    · rintro ⟨a0, a1, a2⟩ a
      match a with
      | ⟨0, _⟩ => exact a0
      | ⟨1, _⟩ => exact a1
      | ⟨2, _⟩ => exact a2
  rw [split, hs0, hs1, hs2, h0, h1, h2, ← word_iff, Fin.ext_iff, Fin.ext_iff]
  constructor
  · rintro ⟨a, b, d⟩; refine ⟨?_, ?_, ?_⟩ <;> omega
  · rintro ⟨a, b, d⟩; refine ⟨?_, ?_, ?_⟩ <;> omega

/-- A segment sum at segment `s`, entry `k`: what was there, plus that entry of every row with the segment's word. -/
theorem seg_apply (z : Vec Ideal S64x4 .f32) (idx : IVec S100000x1 32) (u : Vec Ideal S100000x4 .f32) (s : Fin 64) (k : Fin 4) :
    (Host.scatterAdd (F := Ideal) (φ := .f32) scatter_S64x4_S100000x1_S100000x4_1_0_0_1 z idx u : FVec Ideal S64x4 .f32) (ix2 s k)
      = z (ix2 s k) + ∑ n : Fin 100000, if idx (ix2 n 0) = BitVec.ofNat 32 s.val then u (ix2 n k) else 0 := by
  show z (ix2 s k) + ∑ i ∈ Finset.univ.filter (fun i => (scatter_S64x4_S100000x1_S100000x4_1_0_0_1).resultIdx? i idx = some (ix2 s k)), u i = _
  rw [← Finset.sum_filter]
  refine congrArg (z (ix2 s k) + ·) ?_
  refine Finset.sum_bij' (fun i _ => i 0) (fun n _ => ix2 n k) (fun i hi => ?_) (fun n hn => ?_) (fun i hi => ?_) (fun n _ => rfl) (fun i hi => ?_)
  · obtain ⟨n, q, rfl⟩ : ∃ (n : Fin 100000) (q : Fin 4), i = ix2 n q := ⟨i 0, i 1, eq_ix2 i⟩
    exact Finset.mem_filter.2 ⟨Finset.mem_univ _, ((sum_lands idx n q s k).1 (Finset.mem_filter.1 hi).2).1⟩
  · exact Finset.mem_filter.2 ⟨Finset.mem_univ _, (sum_lands idx n k s k).2 ⟨(Finset.mem_filter.1 hn).2, rfl⟩⟩
  · obtain ⟨n, q, rfl⟩ : ∃ (n : Fin 100000) (q : Fin 4), i = ix2 n q := ⟨i 0, i 1, eq_ix2 i⟩
    obtain rfl : q = k := ((sum_lands idx n q s k).1 (Finset.mem_filter.1 hi).2).2
    rfl
  · obtain ⟨n, q, rfl⟩ : ∃ (n : Fin 100000) (q : Fin 4), i = ix2 n q := ⟨i 0, i 1, eq_ix2 i⟩
    obtain rfl : q = k := ((sum_lands idx n q s k).1 (Finset.mem_filter.1 hi).2).2
    rfl

/-- The same for the weighted rows. -/
theorem wseg_apply (z : Vec Ideal S64x4x128 .f32) (idx : IVec S100000x1 32) (u : Vec Ideal S100000x4x128 .f32) (s : Fin 64) (k : Fin 4)
    (j : Fin 128) :
    (Host.scatterAdd (F := Ideal) (φ := .f32) scatter_S64x4x128_S100000x1_S100000x4x128_12_0_0_1 z idx u : FVec Ideal S64x4x128 .f32) (ix3 s k j)
      = z (ix3 s k j) + ∑ n : Fin 100000, if idx (ix2 n 0) = BitVec.ofNat 32 s.val then u (ix3 n k j) else 0 := by
  show z (ix3 s k j) + ∑ i ∈ Finset.univ.filter (fun i => (scatter_S64x4x128_S100000x1_S100000x4x128_12_0_0_1).resultIdx? i idx = some (ix3 s k j)), u i = _
  rw [← Finset.sum_filter]
  refine congrArg (z (ix3 s k j) + ·) ?_
  refine Finset.sum_bij' (fun i _ => i 0) (fun n _ => ix3 n k j) (fun i hi => ?_) (fun n hn => ?_) (fun i hi => ?_) (fun n _ => rfl) (fun i hi => ?_)
  · obtain ⟨n, q, l, rfl⟩ : ∃ (n : Fin 100000) (q : Fin 4) (l : Fin 128), i = ix3 n q l := ⟨i 0, i 1, i 2, eq_ix3 i⟩
    exact Finset.mem_filter.2 ⟨Finset.mem_univ _, ((wsum_lands idx n q l s k j).1 (Finset.mem_filter.1 hi).2).1⟩
  · exact Finset.mem_filter.2 ⟨Finset.mem_univ _, (wsum_lands idx n k j s k j).2 ⟨(Finset.mem_filter.1 hn).2, rfl, rfl⟩⟩
  · obtain ⟨n, q, l, rfl⟩ : ∃ (n : Fin 100000) (q : Fin 4) (l : Fin 128), i = ix3 n q l := ⟨i 0, i 1, i 2, eq_ix3 i⟩
    obtain ⟨-, rfl, rfl⟩ := (wsum_lands idx n q l s k j).1 (Finset.mem_filter.1 hi).2
    rfl
  · obtain ⟨n, q, l, rfl⟩ : ∃ (n : Fin 100000) (q : Fin 4) (l : Fin 128), i = ix3 n q l := ⟨i 0, i 1, i 2, eq_ix3 i⟩
    obtain ⟨-, rfl, rfl⟩ := (wsum_lands idx n q l s k j).1 (Finset.mem_filter.1 hi).2
    rfl

/-! ## The reference's values -/

section Values

variable (x0 : Vec Ideal S100000x128 .f32) (x1 : Vec Ideal S100000 .i32) (x2 : Vec Ideal S4x128 .f32) (x3 : Vec Ideal S4 .f32)

/-- A row's score for a head. -/
theorem gates_apply (n : Fin 100000) (k : Fin 4) :
    val_main_v4 (F := Ideal) x0 x2 x3 (ix2 n k) = (∑ d : Fin 128, x0 (ix2 n d) * x2 (ix2 k d)) + x3 (ix1 k) := by
  rw [val_main_v4_apply, val_main_v1_apply, val_main_v3_apply, val_main_v2_apply]
  refine congrArg₂ (· + ·) (Finset.sum_congr rfl fun d _ => ?_) (congrArg x3 ?_)
  · rw [val_main_v0_apply]
    refine congrArg₂ (· * ·) (congrArg x0 ?_) (congrArg x2 ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

/-- The score where the row belongs to the segment, minus infinity elsewhere. -/
theorem masked_apply (n : Fin 100000) (s : Fin 64) (k : Fin 4) :
    val_main_v13 (F := Ideal) x0 x1 x2 x3 (ix3 n s k)
      = if x1 (ix1 n) = BitVec.ofNat 32 s.val then val_main_v4 (F := Ideal) x0 x2 x3 (ix2 n k) else ⊥ := by
  rw [val_main_v13_apply, val_main_call0_v1_apply, val_main_v11_apply, val_main_v10_apply, val_main_v8_apply, val_main_v5_apply,
    val_main_v9_apply, val_main_v7_apply, val_main_v6_apply, val_main_call0_v2_apply, val_main_v12_apply, val_main_call0_v3_apply,
    val_main_call0_v0_apply, val_main_cst_apply]
  have e1 : idx_main_v5 (idx_main_v8 (idx_main_v11 (idx_main_call0_v1 (ix3 n s k)))) = ix1 n := by
    funext a
    match a with
    | ⟨0, _⟩ => rfl
  have e2 : idx_main_v12 (idx_main_call0_v2 (ix3 n s k)) = ix2 n k := by
    funext a
    match a with
    | ⟨0, _⟩ => rfl
    | ⟨1, _⟩ => rfl
  have e3 : (idx_main_v7 (idx_main_v9 (idx_main_v11 (idx_main_call0_v1 (ix3 n s k)))) 0).val = s.val := rfl
  rw [e1, e2, e3]
  unfold Scalar.select
  refine if_congr StableHlo.Predicate.cmpi_eq_iff rfl ?_
  exact ofBits_neg_inf

/-- A segment's largest score. -/
theorem top_apply (s : Fin 64) (k : Fin 4) :
    val_main_v14 (F := Ideal) x0 x1 x2 x3 (ix2 s k)
      = Finset.univ.fold max ⊥ fun n : Fin 100000 => if x1 (ix1 n) = BitVec.ofNat 32 s.val then val_main_v4 (F := Ideal) x0 x2 x3 (ix2 n k) else ⊥ := by
  unfold val_main_v14
  rw [Host.reduce_eq_fold, Shape.ReducesTo.fold_fiber_r3_a0]
  refine congrArg₂ (fun b f => Finset.univ.fold max b f) ofBits_neg_inf (funext fun n => ?_)
  exact masked_apply x0 x1 x2 x3 n s k

/-- The wrap leaves a segment's word as it is. -/
theorem wrapped_apply (n : Fin 100000) (s : Fin 64) (h : x1 (ix1 n) = BitVec.ofNat 32 s.val) :
    val_main_v20 (F := Ideal) x1 (ix2 n 0) = BitVec.ofNat 32 s.val := by
  have hs := s.isLt
  have e : idx_main_v20 (ix2 n 0) = ix1 n := by
    funext a
    match a with
    | ⟨0, _⟩ => rfl
  rw [val_main_v20_apply, e, val_main_v19_apply, val_main_v16_apply, val_main_v15_apply, val_main_c_apply, h]
  exact Routing.wrap_of_lt _ _ (by rw [BitVec.toNat_ofNat]; omega)

theorem wrapped_apply' (n : Fin 100000) (s : Fin 64) (h : x1 (ix1 n) = BitVec.ofNat 32 s.val) :
    val_main_v32 (F := Ideal) x1 (ix2 n 0) = BitVec.ofNat 32 s.val := by
  have hs := s.isLt
  have e : idx_main_v32 (ix2 n 0) = ix1 n := by
    funext a
    match a with
    | ⟨0, _⟩ => rfl
  rw [val_main_v32_apply, e, val_main_v31_apply, val_main_v28_apply, val_main_v27_apply, val_main_c_3_apply, h]
  exact Routing.wrap_of_lt _ _ (by rw [BitVec.toNat_ofNat]; omega)

/-- The exponential of a row's score less its segment's largest. -/
theorem exp_apply (n : Fin 100000) (s : Fin 64) (k : Fin 4) (h : x1 (ix1 n) = BitVec.ofNat 32 s.val) :
    val_main_v23 (F := Ideal) x0 x1 x2 x3 (ix2 n k)
      = Ideal.exp (val_main_v4 (F := Ideal) x0 x2 x3 (ix2 n k) - val_main_v14 (F := Ideal) x0 x1 x2 x3 (ix2 s k)) := by
  rw [val_main_v23_apply, val_main_v22_apply]
  unfold val_main_v21
  rw [gather_apply _ _ n s k (wrapped_apply x1 n s h)]
  rfl

/-- A segment's sum of exponentials. -/
theorem denom_apply (s : Fin 64) (k : Fin 4) :
    val_main_v26 (F := Ideal) x0 x1 x2 x3 (ix2 s k)
      = ∑ n : Fin 100000, if x1 (ix1 n) = BitVec.ofNat 32 s.val then val_main_v23 (F := Ideal) x0 x1 x2 x3 (ix2 n k) else 0 := by
  unfold val_main_v26
  rw [seg_apply, val_main_v24_apply, val_main_cst_2_apply]
  refine (congrArg (· + _) (Ideal.ofBits_zero (φ := .f32))).trans ?_
  rw [zero_add]
  refine Finset.sum_congr rfl fun n _ => if_congr ?_ rfl rfl
  rw [val_main_v25_apply]
  exact Eq.congr (congrArg x1 (funext fun a => match a with | ⟨0, _⟩ => rfl)) rfl

/-- A row's softmax weight. -/
theorem quot_apply (n : Fin 100000) (s : Fin 64) (k : Fin 4) (h : x1 (ix1 n) = BitVec.ofNat 32 s.val) :
    val_main_v34 (F := Ideal) x0 x1 x2 x3 (ix2 n k)
      = Ideal.div (val_main_v23 (F := Ideal) x0 x1 x2 x3 (ix2 n k)) (val_main_v26 (F := Ideal) x0 x1 x2 x3 (ix2 s k)) := by
  rw [val_main_v34_apply]
  unfold val_main_v33
  rw [gather_apply _ _ n s k (wrapped_apply' x1 n s h)]
  rfl

/-- The result: the segment sum of the weighted rows. -/
theorem out_apply (s : Fin 64) (k : Fin 4) (j : Fin 128) :
    val_main_v42 (F := Ideal) x0 x1 x2 x3 (ix3 s k j)
      = ∑ n : Fin 100000, if x1 (ix1 n) = BitVec.ofNat 32 s.val then x0 (ix2 n j) * val_main_v34 (F := Ideal) x0 x1 x2 x3 (ix2 n k) else 0 := by
  unfold val_main_v42
  rw [wseg_apply, val_main_v40_apply, val_main_cst_5_apply]
  refine (congrArg (· + _) (Ideal.ofBits_zero (φ := .f32))).trans ?_
  rw [zero_add]
  refine Finset.sum_congr rfl fun n _ => if_congr ?_ ?_ rfl
  · rw [val_main_v41_apply]
    exact Eq.congr (congrArg x1 (funext fun a => match a with | ⟨0, _⟩ => rfl)) rfl
  · rw [val_main_v39_apply, val_main_v37_apply, val_main_v35_apply, val_main_v38_apply, val_main_v36_apply]
    refine congrArg₂ (· * ·) (congrArg x0 ?_) (congrArg (val_main_v34 (F := Ideal) x0 x1 x2 x3) ?_)
    · funext a
      match a with
      | ⟨0, _⟩ => rfl
      | ⟨1, _⟩ => rfl
    · funext a
      match a with
      | ⟨0, _⟩ => rfl
      | ⟨1, _⟩ => rfl

variable {X : Fin 100000 → Fin 128 → ℝ} {W : Fin 4 → Fin 128 → ℝ} {B : Fin 4 → ℝ}
  (hX : ∀ r d, x0 (ix2 r d) = (X r d : EReal)) (hW : ∀ k d, x2 (ix2 k d) = (W k d : EReal)) (hB : ∀ k, x3 (ix1 k) = (B k : EReal))

/-- A sum over the rows, counted by natural numbers. -/
theorem sum_rows (s : Fin 64) (f : ℕ → ℝ) :
    (∑ r ∈ Finset.range 100000, if inSeg (fun r => x1 (ix1 r)) s r then f r else 0)
      = ∑ n : Fin 100000, if x1 (ix1 n) = BitVec.ofNat 32 s.val then f n.val else 0 := by
  rw [Finset.sum_range]
  refine Finset.sum_congr rfl fun n _ => if_congr ?_ rfl rfl
  exact ⟨fun ⟨_, e⟩ => e, fun e => ⟨n.isLt, e⟩⟩

include hX hW hB in
theorem gates_real (n : Fin 100000) (k : Fin 4) : val_main_v4 (F := Ideal) x0 x2 x3 (ix2 n k) = (score X W B k n.val : EReal) := by
  rw [gates_apply]
  unfold score
  rw [dif_pos n.isLt, hB, EReal.coe_add, coe_sum]
  refine congrArg (· + (B k : EReal)) (Finset.sum_congr rfl fun d _ => ?_)
  rw [hX, hW, EReal.coe_mul]

include hX hW hB in
/-- The reference's result at segment `s`, head `k`, column `j`: the softmax of the segment's scores, shifted by some real `M`, applied
    to the column. -/
theorem result_apply (s : Fin 64) (k : Fin 4) (j : Fin 128) : ∃ M : ℝ,
    val_main_v42 (F := Ideal) x0 x1 x2 x3 (ix3 s k j)
      = ((∑ r ∈ Finset.range 100000, if inSeg (fun r => x1 (ix1 r)) s r then entry X j r * (Real.exp (score X W B k r - M)
          / ∑ q ∈ Finset.range 100000, if inSeg (fun r => x1 (ix1 r)) s q then Real.exp (score X W B k q - M) else 0) else 0 : ℝ) : EReal) := by
  have key : ∃ M : ℝ, ∀ n : Fin 100000, x1 (ix1 n) = BitVec.ofNat 32 s.val → val_main_v14 (F := Ideal) x0 x1 x2 x3 (ix2 s k) = (M : EReal) := by
    by_cases hn : ∃ n : Fin 100000, x1 (ix1 n) = BitVec.ofNat 32 s.val
    · obtain ⟨n, hn⟩ := hn
      obtain ⟨M, hM⟩ := fold_max_real Finset.univ
        (fun n : Fin 100000 => if x1 (ix1 n) = BitVec.ofNat 32 s.val then val_main_v4 (F := Ideal) x0 x2 x3 (ix2 n k) else ⊥)
        (fun r _ => by
          split
          · rw [gates_real x0 x2 x3 hX hW hB]; exact EReal.coe_ne_top _
          · exact bot_ne_top) n (Finset.mem_univ _)
        (by
          rw [if_pos hn, gates_real x0 x2 x3 hX hW hB]
          exact EReal.coe_ne_bot _)
      exact ⟨M, fun _ _ => (top_apply x0 x1 x2 x3 s k).trans hM⟩
    · exact ⟨0, fun n h => (hn ⟨n, h⟩).elim⟩
  obtain ⟨M, hM⟩ := key
  refine ⟨M, ?_⟩
  have hexp : ∀ n : Fin 100000, x1 (ix1 n) = BitVec.ofNat 32 s.val →
      val_main_v23 (F := Ideal) x0 x1 x2 x3 (ix2 n k) = (Real.exp (score X W B k n.val - M) : EReal) := by
    intro n h
    rw [exp_apply x0 x1 x2 x3 n s k h, hM n h, gates_real x0 x2 x3 hX hW hB, ← EReal.coe_sub, Ideal.exp_coe]
  have hden : val_main_v26 (F := Ideal) x0 x1 x2 x3 (ix2 s k)
      = ((∑ q ∈ Finset.range 100000, if inSeg (fun r => x1 (ix1 r)) s q then Real.exp (score X W B k q - M) else 0 : ℝ) : EReal) := by
    rw [denom_apply, sum_rows x1 s, coe_sum]
    refine Finset.sum_congr rfl fun n _ => ?_
    split
    · next h => exact hexp n h
    · rfl
  have hpos : ∀ n : Fin 100000, x1 (ix1 n) = BitVec.ofNat 32 s.val →
      (∑ q ∈ Finset.range 100000, if inSeg (fun r => x1 (ix1 r)) s q then Real.exp (score X W B k q - M) else 0) ≠ 0 := by
    intro n h
    refine ne_of_gt (Finset.sum_pos' (fun q _ => ?_) ⟨n.val, Finset.mem_range.2 n.isLt, ?_⟩)
    · split
      · exact (Real.exp_pos _).le
      · exact le_refl _
    · rw [if_pos ⟨n.isLt, h⟩]; exact Real.exp_pos _
  rw [out_apply, sum_rows x1 s (fun r => entry X j r * (Real.exp (score X W B k r - M)
          / ∑ q ∈ Finset.range 100000, if inSeg (fun r => x1 (ix1 r)) s q then Real.exp (score X W B k q - M) else 0)), coe_sum]
  refine Finset.sum_congr rfl fun n _ => ?_
  split
  · next h =>
    rw [quot_apply x0 x1 x2 x3 n s k h, hexp n h, hden, Ideal.div_coe (hpos n h), hX, ← EReal.coe_mul, ← EReal.coe_mul]
    unfold entry
    rw [dif_pos n.isLt, mul_one_div]
  · rfl

end Values

end Cert.ReferenceIdeal.Read

end
-- ==== Proof.lean ====
/-
  The proof of `Cert.Claim`.

  The kernel's result at an index is the softmax-weighted sum of a segment's rows, shifted by any real number
  (Proof/Invariant.lean); the reference's is the same sum shifted by the segment's largest score (Proof/Reference.lean).
  The precondition makes the inputs real (Proof/Finite.lean), which both readings take.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.Invariant
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_ReferenceIdeal_pre : quiescent_ReferenceIdeal_pre_finite_inputs := fun m ρ _ => quiescent_ReferenceIdeal m ρ trivial

/-- On real inputs the reference's result is the kernel's. -/
theorem values (m : (l : Loc Cert.KernelIdeal.nD Cert.KernelIdeal.τ Cert.KernelIdeal.sig) → Buf (Elt Ideal) l) (c : Dev Cert.KernelIdeal.nD)
    (h0 : ∀ i, ∃ r : ℝ, m ((c : Thread Cert.KernelIdeal.nD Cert.KernelIdeal.τ).loc Cert.KernelIdeal.main_arg0) i = (r : EReal))
    (h2 : ∀ i, ∃ r : ℝ, m ((c : Thread Cert.KernelIdeal.nD Cert.KernelIdeal.τ).loc Cert.KernelIdeal.main_arg2) i = (r : EReal))
    (h3 : ∀ i, ∃ r : ℝ, m ((c : Thread Cert.KernelIdeal.nD Cert.KernelIdeal.τ).loc Cert.KernelIdeal.main_arg3) i = (r : EReal)) :
    Cert.ReferenceIdeal.Read.val_main_v42 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2))
        (m ((c : Thread Cert.KernelIdeal.nD Cert.KernelIdeal.τ).loc Cert.KernelIdeal.main_arg3))
      = Cert.KernelIdeal.Value.G4 m c := by
  choose X hX using h0
  choose W hW using h2
  choose B hB using h3
  funext i
  obtain ⟨s, k, j, rfl⟩ : ∃ (s : Fin 64) (k : Fin 4) (j : Fin 128), i = ix3 s k j := ⟨i 0, i 1, i 2, eq_ix3 i⟩
  obtain ⟨M, hM⟩ := Cert.ReferenceIdeal.Read.result_apply (X := fun r d => X (ix2 r d)) (W := fun k d => W (ix2 k d)) (B := fun k => B (ix1 k))
    _ (m ((c : Thread Cert.KernelIdeal.nD Cert.KernelIdeal.τ).loc Cert.KernelIdeal.main_arg1)) _ _ (fun r d => hX (ix2 r d)) (fun k d => hW (ix2 k d))
    (fun k => hB (ix1 k)) s k j
  exact hM.trans (Cert.KernelIdeal.Value.result_apply m c (X := fun r d => X (ix2 r d)) (W := fun k d => W (ix2 k d)) (B := fun k => B (ix1 k))
    (fun r d => hX (ix2 r d)) (fun k d => hW (ix2 k d)) (fun k => hB (ix1 k)) s k j M).symm

theorem algebraic_KernelIdeal_ReferenceIdeal : algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v42_eq, (hagree c).1, (hagree c).2.1, (hagree c).2.2.1, (hagree c).2.2.2]
  obtain ⟨h0, h2, h3⟩ := Cert.Pre_finite_inputs.real_of_pre _ _ _ _ (hpre c)
  exact values m c h0 h2 h3

theorem claim : Cert.Claim := ⟨Cert.Kernel.Gen.facts, Cert.KernelIdeal.Gen.facts, Cert.ReferenceIdeal.Gen.facts, Cert.Pre_finite_inputs.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic_KernelIdeal_ReferenceIdeal⟩

end Cert.Proof

end
